-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v47)) (v1 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_v48) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x80x128x128 : Shape := ⟨4, ![1, 80, 128, 128]⟩
abbrev S1x2x128x128 : Shape := ⟨4, ![1, 2, 128, 128]⟩
abbrev S80x128x128 : Shape := ⟨3, ![80, 128, 128]⟩
abbrev S8x128x128 : Shape := ⟨3, ![8, 128, 128]⟩
abbrev S8x128x1 : Shape := ⟨3, ![8, 128, 1]⟩
abbrev S8x128x127 : Shape := ⟨3, ![8, 128, 127]⟩
abbrev S8x1x128 : Shape := ⟨3, ![8, 1, 128]⟩
abbrev S8x127x128 : Shape := ⟨3, ![8, 127, 128]⟩
abbrev S1x1310720 : Shape := ⟨2, ![1, 1310720]⟩
abbrev S1x100 : Shape := ⟨2, ![1, 100]⟩
abbrev S_ : Shape := ⟨0, ![]⟩
abbrev S1x2x16384 : Shape := ⟨3, ![1, 2, 16384]⟩
abbrev S1x1x16384 : Shape := ⟨3, ![1, 1, 16384]⟩
abbrev S1x16384 : Shape := ⟨2, ![1, 16384]⟩
abbrev S100x1 : Shape := ⟨2, ![100, 1]⟩
abbrev S1 : Shape := ⟨1, ![1]⟩
abbrev S1x1 : Shape := ⟨2, ![1, 1]⟩
abbrev S100 : Shape := ⟨1, ![100]⟩
abbrev S1x100x1 : Shape := ⟨3, ![1, 100, 1]⟩
abbrev S1x100x4 : Shape := ⟨3, ![1, 100, 4]⟩
abbrev S1x100x5 : Shape := ⟨3, ![1, 100, 5]⟩
abbrev S100x5 : Shape := ⟨2, ![100, 5]⟩

abbrev nBuf : Space → Nat
  | .hbm => 223
  | .vmem => 4
  | .smem => 0
  | _ => 0

abbrev hbmTy0_0 (i : Nat) : BufTy := match i % 128 with
  | 0 => ⟨S1x80x128x128, .f32⟩
  | 1 => ⟨S1x2x128x128, .f32⟩
  | 2 => ⟨S1x2x128x128, .f32⟩
  | 3 => ⟨S80x128x128, .f32⟩
  | 4 => ⟨S80x128x128, .f32⟩
  | 5 => ⟨S1x80x128x128, .f32⟩
  | 6 => ⟨S1x1310720, .f32⟩
  | 7 => ⟨S1x100, .f32⟩
  | 8 => ⟨S1x100, .i32⟩
  | 9 => ⟨S_, .i32⟩
  | 10 => ⟨S_, .i32⟩
  | 11 => ⟨S1x100, .i32⟩
  | 12 => ⟨S1x100, .i32⟩
  | 13 => ⟨S1x100, .i32⟩
  | 14 => ⟨S_, .i32⟩
  | 15 => ⟨S1x100, .i32⟩
  | 16 => ⟨S1x100, .i1⟩
  | 17 => ⟨S1x100, .i32⟩
  | 18 => ⟨S1x100, .i32⟩
  | 19 => ⟨S_, .i32⟩
  | 20 => ⟨S1x100, .i32⟩
  | 21 => ⟨S1x100, .i1⟩
  | 22 => ⟨S1x100, .i1⟩
  | 23 => ⟨S_, .i32⟩
  | 24 => ⟨S1x100, .i32⟩
  | 25 => ⟨S1x100, .i32⟩
  | 26 => ⟨S1x100, .i32⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S1x100, .i32⟩
  | 34 => ⟨S1x100, .i32⟩
  | 35 => ⟨S_, .i32⟩
  | 36 => ⟨S1x100, .i32⟩
  | 37 => ⟨S1x100, .i1⟩
  | 38 => ⟨S_, .i32⟩
  | 39 => ⟨S1x100, .i32⟩
  | 40 => ⟨S1x100, .i1⟩
  | 41 => ⟨S_, .i32⟩
  | 42 => ⟨S_, .i1⟩
  | 43 => ⟨S1x100, .i1⟩
  | 44 => ⟨S1x100, .i1⟩
  | 45 => ⟨S1x100, .i1⟩
  | 46 => ⟨S1x100, .i32⟩
  | 47 => ⟨S1x100, .i32⟩
  | 48 => ⟨S1x100, .i32⟩
  | 49 => ⟨S_, .i32⟩
  | 50 => ⟨S_, .i32⟩
  | 51 => ⟨S1x100, .i32⟩
  | 52 => ⟨S1x100, .i32⟩
  | 53 => ⟨S1x100, .i32⟩
  | 54 => ⟨S_, .i32⟩
  | 55 => ⟨S1x100, .i32⟩
  | 56 => ⟨S1x100, .i1⟩
  | 57 => ⟨S1x100, .i32⟩
  | 58 => ⟨S1x100, .i32⟩
  | 59 => ⟨S_, .i32⟩
  | 60 => ⟨S1x100, .i32⟩
  | 61 => ⟨S1x100, .i1⟩
  | 62 => ⟨S1x100, .i1⟩
  | 63 => ⟨S_, .i32⟩
  | 64 => ⟨S1x100, .i32⟩
  | 65 => ⟨S1x100, .i32⟩
  | 66 => ⟨S1x100, .i32⟩
  | 67 => ⟨S1x100, .f32⟩
  | 68 => ⟨S_, .i32⟩
  | 69 => ⟨S_, .i32⟩
  | 70 => ⟨S_, .i32⟩
  | 71 => ⟨S_, .i1⟩
  | 72 => ⟨S_, .i32⟩
  | 73 => ⟨S_, .i32⟩
  | 74 => ⟨S1x100, .i32⟩
  | 75 => ⟨S1x100, .i32⟩
  | 76 => ⟨S_, .i32⟩
  | 77 => ⟨S1x100, .i32⟩
  | 78 => ⟨S1x100, .i1⟩
  | 79 => ⟨S_, .i32⟩
  | 80 => ⟨S1x100, .i32⟩
  | 81 => ⟨S1x100, .i1⟩
  | 82 => ⟨S_, .i32⟩
  | 83 => ⟨S_, .i1⟩
  | 84 => ⟨S1x100, .i1⟩
  | 85 => ⟨S1x100, .i1⟩
  | 86 => ⟨S1x100, .i1⟩
  | 87 => ⟨S1x100, .i32⟩
  | 88 => ⟨S1x100, .i32⟩
  | 89 => ⟨S1x100, .i32⟩
  | 90 => ⟨S1x100, .f32⟩
  | 91 => ⟨S1x2x16384, .f32⟩
  | 92 => ⟨S1x2x16384, .f32⟩
  | 93 => ⟨S1x1x16384, .f32⟩
  | 94 => ⟨S1x16384, .f32⟩
  | 95 => ⟨S_, .i32⟩
  | 96 => ⟨S1x100, .i32⟩
  | 97 => ⟨S1x100, .i1⟩
  | 98 => ⟨S_, .i32⟩
  | 99 => ⟨S1x100, .i32⟩
  | 100 => ⟨S1x100, .i32⟩
  | 101 => ⟨S1x100, .i32⟩
  | 102 => ⟨S100x1, .i32⟩
  | 103 => ⟨S1, .i32⟩
  | 104 => ⟨S_, .i32⟩
  | 105 => ⟨S100x1, .i32⟩
  | 106 => ⟨S100x1, .i1⟩
  | 107 => ⟨S1x1, .i32⟩
  | 108 => ⟨S100x1, .i32⟩
  | 109 => ⟨S100x1, .i1⟩
  | 110 => ⟨S100x1, .i1⟩
  | 111 => ⟨S_, .i1⟩
  | 112 => ⟨S100, .i1⟩
  | 113 => ⟨S1x100, .f32⟩
  | 114 => ⟨S1x100, .i1⟩
  | 115 => ⟨S_, .f32⟩
  | 116 => ⟨S1x100, .f32⟩
  | 117 => ⟨S1x100, .f32⟩
  | 118 => ⟨S1x1x16384, .f32⟩
  | 119 => ⟨S1x16384, .f32⟩
  | 120 => ⟨S_, .i32⟩
  | 121 => ⟨S1x100, .i32⟩
  | 122 => ⟨S1x100, .i1⟩
  | 123 => ⟨S_, .i32⟩
  | 124 => ⟨S1x100, .i32⟩
  | 125 => ⟨S1x100, .i32⟩
  | 126 => ⟨S1x100, .i32⟩
  | 127 => ⟨S100x1, .i32⟩
  | _ => ⟨S1x80x128x128, .f32⟩

abbrev hbmTy0_1 (i : Nat) : BufTy := match i % 128 with
  | 0 => ⟨S1, .i32⟩
  | 1 => ⟨S_, .i32⟩
  | 2 => ⟨S100x1, .i32⟩
  | 3 => ⟨S100x1, .i1⟩
  | 4 => ⟨S1x1, .i32⟩
  | 5 => ⟨S100x1, .i32⟩
  | 6 => ⟨S100x1, .i1⟩
  | 7 => ⟨S100x1, .i1⟩
  | 8 => ⟨S_, .i1⟩
  | 9 => ⟨S100, .i1⟩
  | 10 => ⟨S1x100, .f32⟩
  | 11 => ⟨S1x100, .i1⟩
  | 12 => ⟨S_, .f32⟩
  | 13 => ⟨S1x100, .f32⟩
  | 14 => ⟨S1x100, .f32⟩
  | 15 => ⟨S1x1x16384, .f32⟩
  | 16 => ⟨S1x16384, .f32⟩
  | 17 => ⟨S_, .i32⟩
  | 18 => ⟨S1x100, .i32⟩
  | 19 => ⟨S1x100, .i1⟩
  | 20 => ⟨S_, .i32⟩
  | 21 => ⟨S1x100, .i32⟩
  | 22 => ⟨S1x100, .i32⟩
  | 23 => ⟨S1x100, .i32⟩
  | 24 => ⟨S100x1, .i32⟩
  | 25 => ⟨S1, .i32⟩
  | 26 => ⟨S_, .i32⟩
  | 27 => ⟨S100x1, .i32⟩
  | 28 => ⟨S100x1, .i1⟩
  | 29 => ⟨S1x1, .i32⟩
  | 30 => ⟨S100x1, .i32⟩
  | 31 => ⟨S100x1, .i1⟩
  | 32 => ⟨S100x1, .i1⟩
  | 33 => ⟨S_, .i1⟩
  | 34 => ⟨S100, .i1⟩
  | 35 => ⟨S1x100, .f32⟩
  | 36 => ⟨S1x100, .i1⟩
  | 37 => ⟨S_, .f32⟩
  | 38 => ⟨S1x100, .f32⟩
  | 39 => ⟨S1x100, .f32⟩
  | 40 => ⟨S1x1x16384, .f32⟩
  | 41 => ⟨S1x16384, .f32⟩
  | 42 => ⟨S_, .i32⟩
  | 43 => ⟨S1x100, .i32⟩
  | 44 => ⟨S1x100, .i1⟩
  | 45 => ⟨S_, .i32⟩
  | 46 => ⟨S1x100, .i32⟩
  | 47 => ⟨S1x100, .i32⟩
  | 48 => ⟨S1x100, .i32⟩
  | 49 => ⟨S100x1, .i32⟩
  | 50 => ⟨S1, .i32⟩
  | 51 => ⟨S_, .i32⟩
  | 52 => ⟨S100x1, .i32⟩
  | 53 => ⟨S100x1, .i1⟩
  | 54 => ⟨S1x1, .i32⟩
  | 55 => ⟨S100x1, .i32⟩
  | 56 => ⟨S100x1, .i1⟩
  | 57 => ⟨S100x1, .i1⟩
  | 58 => ⟨S_, .i1⟩
  | 59 => ⟨S100, .i1⟩
  | 60 => ⟨S1x100, .f32⟩
  | 61 => ⟨S1x100, .i1⟩
  | 62 => ⟨S_, .f32⟩
  | 63 => ⟨S1x100, .f32⟩
  | 64 => ⟨S1x100, .f32⟩
  | 65 => ⟨S1x100, .f32⟩
  | 66 => ⟨S1x100, .f32⟩
  | 67 => ⟨S_, .f32⟩
  | 68 => ⟨S1x100, .f32⟩
  | 69 => ⟨S1x100, .f32⟩
  | 70 => ⟨S1x100, .f32⟩
  | 71 => ⟨S_, .f32⟩
  | 72 => ⟨S1x100, .f32⟩
  | 73 => ⟨S1x100, .f32⟩
  | 74 => ⟨S1x100, .f32⟩
  | 75 => ⟨S_, .f32⟩
  | 76 => ⟨S1x100, .f32⟩
  | 77 => ⟨S1x100, .f32⟩
  | 78 => ⟨S1x100, .f32⟩
  | 79 => ⟨S_, .f32⟩
  | 80 => ⟨S1x100, .f32⟩
  | 81 => ⟨S1x100, .f32⟩
  | 82 => ⟨S1x100, .f32⟩
  | 83 => ⟨S1x100x1, .f32⟩
  | 84 => ⟨S1x100x1, .f32⟩
  | 85 => ⟨S1x100x1, .f32⟩
  | 86 => ⟨S1x100x1, .f32⟩
  | 87 => ⟨S1x100x4, .f32⟩
  | 88 => ⟨S_, .f32⟩
  | 89 => ⟨S1x100x4, .f32⟩
  | 90 => ⟨S1x100x4, .f32⟩
  | 91 => ⟨S1x100x1, .f32⟩
  | 92 => ⟨S1x100x5, .f32⟩
  | 93 => ⟨S100x5, .f32⟩
  | 94 => ⟨S100, .i32⟩
  | _ => ⟨S1x80x128x128, .f32⟩

abbrev hbmTy (i : Nat) : BufTy := match i / 128 with
  | 0 => hbmTy0_0 i
  | 1 => hbmTy0_1 i
  | _ => ⟨S1x80x128x128, .f32⟩

abbrev bufTy : (tb : Table) → Fin (tcTables nBuf tb) → BufTy
  | .hbm, ⟨i, _⟩ => hbmTy i
  | .local _ .vmem, ⟨0, _⟩ => ⟨S8x128x128, .f32⟩
  | .local _ .vmem, ⟨1, _⟩ => ⟨S8x128x128, .f32⟩
  | .local _ .vmem, ⟨2, _⟩ => ⟨S8x128x128, .f32⟩
  | .local _ .vmem, ⟨3, _⟩ => ⟨S8x128x128, .f32⟩
  | _, _ => ⟨S1x80x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_values : Ref sig .tc := ⟨.hbm, 7, rfl⟩
abbrev main_indices : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_c_0 : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_c_1 : Ref sig .tc := ⟨.hbm, 35, rfl⟩
abbrev main_call1_v5 : Ref sig .tc := ⟨.hbm, 36, rfl⟩
abbrev main_call1_v6 : Ref sig .tc := ⟨.hbm, 37, rfl⟩
abbrev main_call1_c_2 : Ref sig .tc := ⟨.hbm, 38, rfl⟩
abbrev main_call1_v7 : Ref sig .tc := ⟨.hbm, 39, rfl⟩
abbrev main_call1_v8 : Ref sig .tc := ⟨.hbm, 40, rfl⟩
abbrev main_call1_c_3 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_v5 : Ref sig .tc := ⟨.hbm, 48, rfl⟩
abbrev main_c_1 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_v6 : Ref sig .tc := ⟨.hbm, 56, rfl⟩
abbrev main_call2_v7 : Ref sig .tc := ⟨.hbm, 57, rfl⟩
abbrev main_call2_v8 : Ref sig .tc := ⟨.hbm, 58, rfl⟩
abbrev main_call2_c : Ref sig .tc := ⟨.hbm, 59, rfl⟩
abbrev main_call2_v9 : Ref sig .tc := ⟨.hbm, 60, rfl⟩
abbrev main_call2_v10 : Ref sig .tc := ⟨.hbm, 61, rfl⟩
abbrev main_call2_v11 : Ref sig .tc := ⟨.hbm, 62, rfl⟩
abbrev main_call2_c_0 : Ref sig .tc := ⟨.hbm, 63, rfl⟩
abbrev main_call2_v12 : Ref sig .tc := ⟨.hbm, 64, rfl⟩
abbrev main_call2_v13 : Ref sig .tc := ⟨.hbm, 65, rfl⟩
abbrev main_v6 : Ref sig .tc := ⟨.hbm, 66, rfl⟩
abbrev main_v7 : Ref sig .tc := ⟨.hbm, 67, rfl⟩
abbrev main_c_2 : Ref sig .tc := ⟨.hbm, 68, rfl⟩
abbrev main_call3_v0 : Ref sig .tc := ⟨.hbm, 69, rfl⟩
abbrev main_call3_c : Ref sig .tc := ⟨.hbm, 70, rfl⟩
abbrev main_call3_v1 : Ref sig .tc := ⟨.hbm, 71, rfl⟩
abbrev main_call3_c_0 : Ref sig .tc := ⟨.hbm, 72, rfl⟩
abbrev main_call3_v2 : Ref sig .tc := ⟨.hbm, 73, rfl⟩
abbrev main_call3_v3 : Ref sig .tc := ⟨.hbm, 74, rfl⟩
abbrev main_call3_v4 : Ref sig .tc := ⟨.hbm, 75, rfl⟩
abbrev main_call3_c_1 : Ref sig .tc := ⟨.hbm, 76, rfl⟩
abbrev main_call3_v5 : Ref sig .tc := ⟨.hbm, 77, rfl⟩
abbrev main_call3_v6 : Ref sig .tc := ⟨.hbm, 78, rfl⟩
abbrev main_call3_c_2 : Ref sig .tc := ⟨.hbm, 79, rfl⟩
abbrev main_call3_v7 : Ref sig .tc := ⟨.hbm, 80, rfl⟩
abbrev main_call3_v8 : Ref sig .tc := ⟨.hbm, 81, rfl⟩
abbrev main_call3_c_3 : Ref sig .tc := ⟨.hbm, 82, rfl⟩
abbrev main_call3_v9 : Ref sig .tc := ⟨.hbm, 83, rfl⟩
abbrev main_call3_v10 : Ref sig .tc := ⟨.hbm, 84, rfl⟩
abbrev main_call3_v11 : Ref sig .tc := ⟨.hbm, 85, rfl⟩
abbrev main_call3_v12 : Ref sig .tc := ⟨.hbm, 86, rfl⟩
abbrev main_call3_v13 : Ref sig .tc := ⟨.hbm, 87, rfl⟩
abbrev main_call3_v14 : Ref sig .tc := ⟨.hbm, 88, rfl⟩
abbrev main_v8 : Ref sig .tc := ⟨.hbm, 89, rfl⟩
abbrev main_v9 : Ref sig .tc := ⟨.hbm, 90, rfl⟩
abbrev main_v10 : Ref sig .tc := ⟨.hbm, 91, rfl⟩
abbrev main_v11 : Ref sig .tc := ⟨.hbm, 92, rfl⟩
abbrev main_v12 : Ref sig .tc := ⟨.hbm, 93, rfl⟩
abbrev main_v13 : Ref sig .tc := ⟨.hbm, 94, rfl⟩
abbrev main_call4_c : Ref sig .tc := ⟨.hbm, 95, rfl⟩
abbrev main_call4_v0 : Ref sig .tc := ⟨.hbm, 96, rfl⟩
abbrev main_call4_v1 : Ref sig .tc := ⟨.hbm, 97, rfl⟩
abbrev main_call4_c_0 : Ref sig .tc := ⟨.hbm, 98, rfl⟩
abbrev main_call4_v2 : Ref sig .tc := ⟨.hbm, 99, rfl⟩
abbrev main_call4_v3 : Ref sig .tc := ⟨.hbm, 100, rfl⟩
abbrev main_call4_v4 : Ref sig .tc := ⟨.hbm, 101, rfl⟩
abbrev main_call4_v5 : Ref sig .tc := ⟨.hbm, 102, rfl⟩
abbrev main_call4_c_1 : Ref sig .tc := ⟨.hbm, 103, rfl⟩
abbrev main_call4_c_2 : Ref sig .tc := ⟨.hbm, 104, rfl⟩
abbrev main_call4_v6 : Ref sig .tc := ⟨.hbm, 105, rfl⟩
abbrev main_call4_v7 : Ref sig .tc := ⟨.hbm, 106, rfl⟩
abbrev main_call4_v8 : Ref sig .tc := ⟨.hbm, 107, rfl⟩
abbrev main_call4_v9 : Ref sig .tc := ⟨.hbm, 108, rfl⟩
abbrev main_call4_v10 : Ref sig .tc := ⟨.hbm, 109, rfl⟩
abbrev main_call4_v11 : Ref sig .tc := ⟨.hbm, 110, rfl⟩
abbrev main_call4_c_3 : Ref sig .tc := ⟨.hbm, 111, rfl⟩
abbrev main_call4_v12 : Ref sig .tc := ⟨.hbm, 112, rfl⟩
abbrev main_call4_v13 : Ref sig .tc := ⟨.hbm, 113, rfl⟩
abbrev main_call4_v14 : Ref sig .tc := ⟨.hbm, 114, rfl⟩
abbrev main_call4_cst : Ref sig .tc := ⟨.hbm, 115, rfl⟩
abbrev main_call4_v15 : Ref sig .tc := ⟨.hbm, 116, rfl⟩
abbrev main_v14 : Ref sig .tc := ⟨.hbm, 117, rfl⟩
abbrev main_v15 : Ref sig .tc := ⟨.hbm, 118, rfl⟩
abbrev main_v16 : Ref sig .tc := ⟨.hbm, 119, rfl⟩
abbrev main_call5_c : Ref sig .tc := ⟨.hbm, 120, rfl⟩
abbrev main_call5_v0 : Ref sig .tc := ⟨.hbm, 121, rfl⟩
abbrev main_call5_v1 : Ref sig .tc := ⟨.hbm, 122, rfl⟩
abbrev main_call5_c_0 : Ref sig .tc := ⟨.hbm, 123, rfl⟩
abbrev main_call5_v2 : Ref sig .tc := ⟨.hbm, 124, rfl⟩
abbrev main_call5_v3 : Ref sig .tc := ⟨.hbm, 125, rfl⟩
abbrev main_call5_v4 : Ref sig .tc := ⟨.hbm, 126, rfl⟩
abbrev main_call5_v5 : Ref sig .tc := ⟨.hbm, 127, rfl⟩
abbrev main_call5_c_1 : Ref sig .tc := ⟨.hbm, 128, rfl⟩
abbrev main_call5_c_2 : Ref sig .tc := ⟨.hbm, 129, rfl⟩
abbrev main_call5_v6 : Ref sig .tc := ⟨.hbm, 130, rfl⟩
abbrev main_call5_v7 : Ref sig .tc := ⟨.hbm, 131, rfl⟩
abbrev main_call5_v8 : Ref sig .tc := ⟨.hbm, 132, rfl⟩
abbrev main_call5_v9 : Ref sig .tc := ⟨.hbm, 133, rfl⟩
abbrev main_call5_v10 : Ref sig .tc := ⟨.hbm, 134, rfl⟩
abbrev main_call5_v11 : Ref sig .tc := ⟨.hbm, 135, rfl⟩
abbrev main_call5_c_3 : Ref sig .tc := ⟨.hbm, 136, rfl⟩
abbrev main_call5_v12 : Ref sig .tc := ⟨.hbm, 137, rfl⟩
abbrev main_call5_v13 : Ref sig .tc := ⟨.hbm, 138, rfl⟩
abbrev main_call5_v14 : Ref sig .tc := ⟨.hbm, 139, rfl⟩
abbrev main_call5_cst : Ref sig .tc := ⟨.hbm, 140, rfl⟩
abbrev main_call5_v15 : Ref sig .tc := ⟨.hbm, 141, rfl⟩
abbrev main_v17 : Ref sig .tc := ⟨.hbm, 142, rfl⟩
abbrev main_v18 : Ref sig .tc := ⟨.hbm, 143, rfl⟩
abbrev main_v19 : Ref sig .tc := ⟨.hbm, 144, rfl⟩
abbrev main_call6_c : Ref sig .tc := ⟨.hbm, 145, rfl⟩
abbrev main_call6_v0 : Ref sig .tc := ⟨.hbm, 146, rfl⟩
abbrev main_call6_v1 : Ref sig .tc := ⟨.hbm, 147, rfl⟩
abbrev main_call6_c_0 : Ref sig .tc := ⟨.hbm, 148, rfl⟩
abbrev main_call6_v2 : Ref sig .tc := ⟨.hbm, 149, rfl⟩
abbrev main_call6_v3 : Ref sig .tc := ⟨.hbm, 150, rfl⟩
abbrev main_call6_v4 : Ref sig .tc := ⟨.hbm, 151, rfl⟩
abbrev main_call6_v5 : Ref sig .tc := ⟨.hbm, 152, rfl⟩
abbrev main_call6_c_1 : Ref sig .tc := ⟨.hbm, 153, rfl⟩
abbrev main_call6_c_2 : Ref sig .tc := ⟨.hbm, 154, rfl⟩
abbrev main_call6_v6 : Ref sig .tc := ⟨.hbm, 155, rfl⟩
abbrev main_call6_v7 : Ref sig .tc := ⟨.hbm, 156, rfl⟩
abbrev main_call6_v8 : Ref sig .tc := ⟨.hbm, 157, rfl⟩
abbrev main_call6_v9 : Ref sig .tc := ⟨.hbm, 158, rfl⟩
abbrev main_call6_v10 : Ref sig .tc := ⟨.hbm, 159, rfl⟩
abbrev main_call6_v11 : Ref sig .tc := ⟨.hbm, 160, rfl⟩
abbrev main_call6_c_3 : Ref sig .tc := ⟨.hbm, 161, rfl⟩
abbrev main_call6_v12 : Ref sig .tc := ⟨.hbm, 162, rfl⟩
abbrev main_call6_v13 : Ref sig .tc := ⟨.hbm, 163, rfl⟩
abbrev main_call6_v14 : Ref sig .tc := ⟨.hbm, 164, rfl⟩
abbrev main_call6_cst : Ref sig .tc := ⟨.hbm, 165, rfl⟩
abbrev main_call6_v15 : Ref sig .tc := ⟨.hbm, 166, rfl⟩
abbrev main_v20 : Ref sig .tc := ⟨.hbm, 167, rfl⟩
abbrev main_v21 : Ref sig .tc := ⟨.hbm, 168, rfl⟩
abbrev main_v22 : Ref sig .tc := ⟨.hbm, 169, rfl⟩
abbrev main_call7_c : Ref sig .tc := ⟨.hbm, 170, rfl⟩
abbrev main_call7_v0 : Ref sig .tc := ⟨.hbm, 171, rfl⟩
abbrev main_call7_v1 : Ref sig .tc := ⟨.hbm, 172, rfl⟩
abbrev main_call7_c_0 : Ref sig .tc := ⟨.hbm, 173, rfl⟩
abbrev main_call7_v2 : Ref sig .tc := ⟨.hbm, 174, rfl⟩
abbrev main_call7_v3 : Ref sig .tc := ⟨.hbm, 175, rfl⟩
abbrev main_call7_v4 : Ref sig .tc := ⟨.hbm, 176, rfl⟩
abbrev main_call7_v5 : Ref sig .tc := ⟨.hbm, 177, rfl⟩
abbrev main_call7_c_1 : Ref sig .tc := ⟨.hbm, 178, rfl⟩
abbrev main_call7_c_2 : Ref sig .tc := ⟨.hbm, 179, rfl⟩
abbrev main_call7_v6 : Ref sig .tc := ⟨.hbm, 180, rfl⟩
abbrev main_call7_v7 : Ref sig .tc := ⟨.hbm, 181, rfl⟩
abbrev main_call7_v8 : Ref sig .tc := ⟨.hbm, 182, rfl⟩
abbrev main_call7_v9 : Ref sig .tc := ⟨.hbm, 183, rfl⟩
abbrev main_call7_v10 : Ref sig .tc := ⟨.hbm, 184, rfl⟩
abbrev main_call7_v11 : Ref sig .tc := ⟨.hbm, 185, rfl⟩
abbrev main_call7_c_3 : Ref sig .tc := ⟨.hbm, 186, rfl⟩
abbrev main_call7_v12 : Ref sig .tc := ⟨.hbm, 187, rfl⟩
abbrev main_call7_v13 : Ref sig .tc := ⟨.hbm, 188, rfl⟩
abbrev main_call7_v14 : Ref sig .tc := ⟨.hbm, 189, rfl⟩
abbrev main_call7_cst : Ref sig .tc := ⟨.hbm, 190, rfl⟩
abbrev main_call7_v15 : Ref sig .tc := ⟨.hbm, 191, rfl⟩
abbrev main_v23 : Ref sig .tc := ⟨.hbm, 192, rfl⟩
abbrev main_v24 : Ref sig .tc := ⟨.hbm, 193, rfl⟩
abbrev main_v25 : Ref sig .tc := ⟨.hbm, 194, rfl⟩
abbrev main_cst : Ref sig .tc := ⟨.hbm, 195, rfl⟩
abbrev main_v26 : Ref sig .tc := ⟨.hbm, 196, rfl⟩
abbrev main_v27 : Ref sig .tc := ⟨.hbm, 197, rfl⟩
abbrev main_v28 : Ref sig .tc := ⟨.hbm, 198, rfl⟩
abbrev main_cst_3 : Ref sig .tc := ⟨.hbm, 199, rfl⟩
abbrev main_v29 : Ref sig .tc := ⟨.hbm, 200, rfl⟩
abbrev main_v30 : Ref sig .tc := ⟨.hbm, 201, rfl⟩
abbrev main_v31 : Ref sig .tc := ⟨.hbm, 202, rfl⟩
abbrev main_cst_4 : Ref sig .tc := ⟨.hbm, 203, rfl⟩
abbrev main_v32 : Ref sig .tc := ⟨.hbm, 204, rfl⟩
abbrev main_v33 : Ref sig .tc := ⟨.hbm, 205, rfl⟩
abbrev main_v34 : Ref sig .tc := ⟨.hbm, 206, rfl⟩
abbrev main_cst_5 : Ref sig .tc := ⟨.hbm, 207, rfl⟩
abbrev main_v35 : Ref sig .tc := ⟨.hbm, 208, rfl⟩
abbrev main_v36 : Ref sig .tc := ⟨.hbm, 209, rfl⟩
abbrev main_v37 : Ref sig .tc := ⟨.hbm, 210, rfl⟩
abbrev main_v38 : Ref sig .tc := ⟨.hbm, 211, rfl⟩
abbrev main_v39 : Ref sig .tc := ⟨.hbm, 212, rfl⟩
abbrev main_v40 : Ref sig .tc := ⟨.hbm, 213, rfl⟩
abbrev main_v41 : Ref sig .tc := ⟨.hbm, 214, rfl⟩
abbrev main_v42 : Ref sig .tc := ⟨.hbm, 215, rfl⟩
abbrev main_cst_6 : Ref sig .tc := ⟨.hbm, 216, rfl⟩
abbrev main_v43 : Ref sig .tc := ⟨.hbm, 217, rfl⟩
abbrev main_v44 : Ref sig .tc := ⟨.hbm, 218, rfl⟩
abbrev main_v45 : Ref sig .tc := ⟨.hbm, 219, rfl⟩
abbrev main_v46 : Ref sig .tc := ⟨.hbm, 220, rfl⟩
abbrev main_v47 : Ref sig .tc := ⟨.hbm, 221, rfl⟩
abbrev main_v48 : Ref sig .tc := ⟨.hbm, 222, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S1x80x128x128 : Shape := ⟨4, ![1, 80, 128, 128]⟩
abbrev S1x2x128x128 : Shape := ⟨4, ![1, 2, 128, 128]⟩
abbrev S_ : Shape := ⟨0, ![]⟩
abbrev S1x80x130x130 : Shape := ⟨4, ![1, 80, 130, 130]⟩
abbrev S1x1310720 : Shape := ⟨2, ![1, 1310720]⟩
abbrev S1x100 : Shape := ⟨2, ![1, 100]⟩
abbrev S1x2x16384 : Shape := ⟨3, ![1, 2, 16384]⟩
abbrev S1x1x16384 : Shape := ⟨3, ![1, 1, 16384]⟩
abbrev S1x16384 : Shape := ⟨2, ![1, 16384]⟩
abbrev S100x1 : Shape := ⟨2, ![100, 1]⟩
abbrev S1 : Shape := ⟨1, ![1]⟩
abbrev S1x1 : Shape := ⟨2, ![1, 1]⟩
abbrev S100 : Shape := ⟨1, ![100]⟩
abbrev S1x100x1 : Shape := ⟨3, ![1, 100, 1]⟩
abbrev S1x100x4 : Shape := ⟨3, ![1, 100, 4]⟩
abbrev S1x100x5 : Shape := ⟨3, ![1, 100, 5]⟩
abbrev S100x5 : Shape := ⟨2, ![100, 5]⟩

abbrev nBuf : Space → Nat
  | .hbm => 245
  | .vmem => 0
  | .smem => 0
  | _ => 0

abbrev hbmTy0_0 (i : Nat) : BufTy := match i % 128 with
  | 0 => ⟨S1x80x128x128, .f32⟩
  | 1 => ⟨S1x2x128x128, .f32⟩
  | 2 => ⟨S1x2x128x128, .f32⟩
  | 3 => ⟨S1x80x128x128, .f32⟩
  | 4 => ⟨S1x80x128x128, .f32⟩
  | 5 => ⟨S_, .f32⟩
  | 6 => ⟨S1x80x128x128, .f32⟩
  | 7 => ⟨S1x80x128x128, .f32⟩
  | 8 => ⟨S_, .f32⟩
  | 9 => ⟨S1x80x128x128, .f32⟩
  | 10 => ⟨S1x80x128x128, .f32⟩
  | 11 => ⟨S_, .f32⟩
  | 12 => ⟨S_, .f32⟩
  | 13 => ⟨S_, .f32⟩
  | 14 => ⟨S1x80x128x128, .f32⟩
  | 15 => ⟨S1x80x128x128, .f32⟩
  | 16 => ⟨S_, .f32⟩
  | 17 => ⟨S1x80x128x128, .f32⟩
  | 18 => ⟨S1x80x128x128, .f32⟩
  | 19 => ⟨S_, .f32⟩
  | 20 => ⟨S_, .f32⟩
  | 21 => ⟨S1x80x130x130, .f32⟩
  | 22 => ⟨S_, .f32⟩
  | 23 => ⟨S_, .f32⟩
  | 24 => ⟨S1x80x128x128, .f32⟩
  | 25 => ⟨S1x80x128x128, .i1⟩
  | 26 => ⟨S1x80x128x128, .f32⟩
  | 27 => ⟨S1x80x128x128, .f32⟩
  | 28 => ⟨S1x1310720, .f32⟩
  | 29 => ⟨S1x100, .f32⟩
  | 30 => ⟨S1x100, .i32⟩
  | 31 => ⟨S_, .i32⟩
  | 32 => ⟨S_, .i32⟩
  | 33 => ⟨S1x100, .i32⟩
  | 34 => ⟨S1x100, .i32⟩
  | 35 => ⟨S1x100, .i32⟩
  | 36 => ⟨S_, .i32⟩
  | 37 => ⟨S1x100, .i32⟩
  | 38 => ⟨S1x100, .i1⟩
  | 39 => ⟨S1x100, .i32⟩
  | 40 => ⟨S1x100, .i32⟩
  | 41 => ⟨S_, .i32⟩
  | 42 => ⟨S1x100, .i32⟩
  | 43 => ⟨S1x100, .i1⟩
  | 44 => ⟨S1x100, .i1⟩
  | 45 => ⟨S_, .i32⟩
  | 46 => ⟨S1x100, .i32⟩
  | 47 => ⟨S1x100, .i32⟩
  | 48 => ⟨S1x100, .i32⟩
  | 49 => ⟨S_, .i32⟩
  | 50 => ⟨S_, .i32⟩
  | 51 => ⟨S_, .i32⟩
  | 52 => ⟨S_, .i1⟩
  | 53 => ⟨S_, .i32⟩
  | 54 => ⟨S_, .i32⟩
  | 55 => ⟨S1x100, .i32⟩
  | 56 => ⟨S1x100, .i32⟩
  | 57 => ⟨S_, .i32⟩
  | 58 => ⟨S1x100, .i32⟩
  | 59 => ⟨S1x100, .i1⟩
  | 60 => ⟨S_, .i32⟩
  | 61 => ⟨S1x100, .i32⟩
  | 62 => ⟨S1x100, .i1⟩
  | 63 => ⟨S_, .i32⟩
  | 64 => ⟨S_, .i1⟩
  | 65 => ⟨S1x100, .i1⟩
  | 66 => ⟨S1x100, .i1⟩
  | 67 => ⟨S1x100, .i1⟩
  | 68 => ⟨S1x100, .i32⟩
  | 69 => ⟨S1x100, .i32⟩
  | 70 => ⟨S1x100, .i32⟩
  | 71 => ⟨S_, .i32⟩
  | 72 => ⟨S_, .i32⟩
  | 73 => ⟨S1x100, .i32⟩
  | 74 => ⟨S1x100, .i32⟩
  | 75 => ⟨S1x100, .i32⟩
  | 76 => ⟨S_, .i32⟩
  | 77 => ⟨S1x100, .i32⟩
  | 78 => ⟨S1x100, .i1⟩
  | 79 => ⟨S1x100, .i32⟩
  | 80 => ⟨S1x100, .i32⟩
  | 81 => ⟨S_, .i32⟩
  | 82 => ⟨S1x100, .i32⟩
  | 83 => ⟨S1x100, .i1⟩
  | 84 => ⟨S1x100, .i1⟩
  | 85 => ⟨S_, .i32⟩
  | 86 => ⟨S1x100, .i32⟩
  | 87 => ⟨S1x100, .i32⟩
  | 88 => ⟨S1x100, .i32⟩
  | 89 => ⟨S1x100, .f32⟩
  | 90 => ⟨S_, .i32⟩
  | 91 => ⟨S_, .i32⟩
  | 92 => ⟨S_, .i32⟩
  | 93 => ⟨S_, .i1⟩
  | 94 => ⟨S_, .i32⟩
  | 95 => ⟨S_, .i32⟩
  | 96 => ⟨S1x100, .i32⟩
  | 97 => ⟨S1x100, .i32⟩
  | 98 => ⟨S_, .i32⟩
  | 99 => ⟨S1x100, .i32⟩
  | 100 => ⟨S1x100, .i1⟩
  | 101 => ⟨S_, .i32⟩
  | 102 => ⟨S1x100, .i32⟩
  | 103 => ⟨S1x100, .i1⟩
  | 104 => ⟨S_, .i32⟩
  | 105 => ⟨S_, .i1⟩
  | 106 => ⟨S1x100, .i1⟩
  | 107 => ⟨S1x100, .i1⟩
  | 108 => ⟨S1x100, .i1⟩
  | 109 => ⟨S1x100, .i32⟩
  | 110 => ⟨S1x100, .i32⟩
  | 111 => ⟨S1x100, .i32⟩
  | 112 => ⟨S1x100, .f32⟩
  | 113 => ⟨S1x2x16384, .f32⟩
  | 114 => ⟨S1x2x16384, .f32⟩
  | 115 => ⟨S1x1x16384, .f32⟩
  | 116 => ⟨S1x16384, .f32⟩
  | 117 => ⟨S_, .i32⟩
  | 118 => ⟨S1x100, .i32⟩
  | 119 => ⟨S1x100, .i1⟩
  | 120 => ⟨S_, .i32⟩
  | 121 => ⟨S1x100, .i32⟩
  | 122 => ⟨S1x100, .i32⟩
  | 123 => ⟨S1x100, .i32⟩
  | 124 => ⟨S100x1, .i32⟩
  | 125 => ⟨S1, .i32⟩
  | 126 => ⟨S_, .i32⟩
  | 127 => ⟨S100x1, .i32⟩
  | _ => ⟨S1x80x128x128, .f32⟩

abbrev hbmTy0_1 (i : Nat) : BufTy := match i % 128 with
  | 0 => ⟨S100x1, .i1⟩
  | 1 => ⟨S1x1, .i32⟩
  | 2 => ⟨S100x1, .i32⟩
  | 3 => ⟨S100x1, .i1⟩
  | 4 => ⟨S100x1, .i1⟩
  | 5 => ⟨S_, .i1⟩
  | 6 => ⟨S100, .i1⟩
  | 7 => ⟨S1x100, .f32⟩
  | 8 => ⟨S1x100, .i1⟩
  | 9 => ⟨S_, .f32⟩
  | 10 => ⟨S1x100, .f32⟩
  | 11 => ⟨S1x100, .f32⟩
  | 12 => ⟨S1x1x16384, .f32⟩
  | 13 => ⟨S1x16384, .f32⟩
  | 14 => ⟨S_, .i32⟩
  | 15 => ⟨S1x100, .i32⟩
  | 16 => ⟨S1x100, .i1⟩
  | 17 => ⟨S_, .i32⟩
  | 18 => ⟨S1x100, .i32⟩
  | 19 => ⟨S1x100, .i32⟩
  | 20 => ⟨S1x100, .i32⟩
  | 21 => ⟨S100x1, .i32⟩
  | 22 => ⟨S1, .i32⟩
  | 23 => ⟨S_, .i32⟩
  | 24 => ⟨S100x1, .i32⟩
  | 25 => ⟨S100x1, .i1⟩
  | 26 => ⟨S1x1, .i32⟩
  | 27 => ⟨S100x1, .i32⟩
  | 28 => ⟨S100x1, .i1⟩
  | 29 => ⟨S100x1, .i1⟩
  | 30 => ⟨S_, .i1⟩
  | 31 => ⟨S100, .i1⟩
  | 32 => ⟨S1x100, .f32⟩
  | 33 => ⟨S1x100, .i1⟩
  | 34 => ⟨S_, .f32⟩
  | 35 => ⟨S1x100, .f32⟩
  | 36 => ⟨S1x100, .f32⟩
  | 37 => ⟨S1x1x16384, .f32⟩
  | 38 => ⟨S1x16384, .f32⟩
  | 39 => ⟨S_, .i32⟩
  | 40 => ⟨S1x100, .i32⟩
  | 41 => ⟨S1x100, .i1⟩
  | 42 => ⟨S_, .i32⟩
  | 43 => ⟨S1x100, .i32⟩
  | 44 => ⟨S1x100, .i32⟩
  | 45 => ⟨S1x100, .i32⟩
  | 46 => ⟨S100x1, .i32⟩
  | 47 => ⟨S1, .i32⟩
  | 48 => ⟨S_, .i32⟩
  | 49 => ⟨S100x1, .i32⟩
  | 50 => ⟨S100x1, .i1⟩
  | 51 => ⟨S1x1, .i32⟩
  | 52 => ⟨S100x1, .i32⟩
  | 53 => ⟨S100x1, .i1⟩
  | 54 => ⟨S100x1, .i1⟩
  | 55 => ⟨S_, .i1⟩
  | 56 => ⟨S100, .i1⟩
  | 57 => ⟨S1x100, .f32⟩
  | 58 => ⟨S1x100, .i1⟩
  | 59 => ⟨S_, .f32⟩
  | 60 => ⟨S1x100, .f32⟩
  | 61 => ⟨S1x100, .f32⟩
  | 62 => ⟨S1x1x16384, .f32⟩
  | 63 => ⟨S1x16384, .f32⟩
  | 64 => ⟨S_, .i32⟩
  | 65 => ⟨S1x100, .i32⟩
  | 66 => ⟨S1x100, .i1⟩
  | 67 => ⟨S_, .i32⟩
  | 68 => ⟨S1x100, .i32⟩
  | 69 => ⟨S1x100, .i32⟩
  | 70 => ⟨S1x100, .i32⟩
  | 71 => ⟨S100x1, .i32⟩
  | 72 => ⟨S1, .i32⟩
  | 73 => ⟨S_, .i32⟩
  | 74 => ⟨S100x1, .i32⟩
  | 75 => ⟨S100x1, .i1⟩
  | 76 => ⟨S1x1, .i32⟩
  | 77 => ⟨S100x1, .i32⟩
  | 78 => ⟨S100x1, .i1⟩
  | 79 => ⟨S100x1, .i1⟩
  | 80 => ⟨S_, .i1⟩
  | 81 => ⟨S100, .i1⟩
  | 82 => ⟨S1x100, .f32⟩
  | 83 => ⟨S1x100, .i1⟩
  | 84 => ⟨S_, .f32⟩
  | 85 => ⟨S1x100, .f32⟩
  | 86 => ⟨S1x100, .f32⟩
  | 87 => ⟨S1x100, .f32⟩
  | 88 => ⟨S1x100, .f32⟩
  | 89 => ⟨S_, .f32⟩
  | 90 => ⟨S1x100, .f32⟩
  | 91 => ⟨S1x100, .f32⟩
  | 92 => ⟨S1x100, .f32⟩
  | 93 => ⟨S_, .f32⟩
  | 94 => ⟨S1x100, .f32⟩
  | 95 => ⟨S1x100, .f32⟩
  | 96 => ⟨S1x100, .f32⟩
  | 97 => ⟨S_, .f32⟩
  | 98 => ⟨S1x100, .f32⟩
  | 99 => ⟨S1x100, .f32⟩
  | 100 => ⟨S1x100, .f32⟩
  | 101 => ⟨S_, .f32⟩
  | 102 => ⟨S1x100, .f32⟩
  | 103 => ⟨S1x100, .f32⟩
  | 104 => ⟨S1x100, .f32⟩
  | 105 => ⟨S1x100x1, .f32⟩
  | 106 => ⟨S1x100x1, .f32⟩
  | 107 => ⟨S1x100x1, .f32⟩
  | 108 => ⟨S1x100x1, .f32⟩
  | 109 => ⟨S1x100x4, .f32⟩
  | 110 => ⟨S_, .f32⟩
  | 111 => ⟨S1x100x4, .f32⟩
  | 112 => ⟨S1x100x4, .f32⟩
  | 113 => ⟨S1x100x1, .f32⟩
  | 114 => ⟨S1x100x5, .f32⟩
  | 115 => ⟨S100x5, .f32⟩
  | 116 => ⟨S100, .i32⟩
  | _ => ⟨S1x80x128x128, .f32⟩

abbrev hbmTy (i : Nat) : BufTy := match i / 128 with
  | 0 => hbmTy0_0 i
  | 1 => hbmTy0_1 i
  | _ => ⟨S1x80x128x128, .f32⟩

abbrev bufTy : (tb : Table) → Fin (tcTables nBuf tb) → BufTy
  | .hbm, ⟨i, _⟩ => hbmTy i
  | _, _ => ⟨S1x80x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v6 : Ref sig .tc := ⟨.hbm, 18, rfl⟩
abbrev main_cst_3 : Ref sig .tc := ⟨.hbm, 19, rfl⟩
abbrev main_call1_v0 : Ref sig .tc := ⟨.hbm, 20, rfl⟩
abbrev main_v7 : Ref sig .tc := ⟨.hbm, 21, rfl⟩
abbrev main_cst_4 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_values : Ref sig .tc := ⟨.hbm, 29, rfl⟩
abbrev main_indices : Ref sig .tc := ⟨.hbm, 30, rfl⟩
abbrev main_c : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_v5 : Ref sig .tc := ⟨.hbm, 37, rfl⟩
abbrev main_call2_v6 : Ref sig .tc := ⟨.hbm, 38, rfl⟩
abbrev main_call2_v7 : Ref sig .tc := ⟨.hbm, 39, rfl⟩
abbrev main_call2_v8 : Ref sig .tc := ⟨.hbm, 40, rfl⟩
abbrev main_call2_c : Ref sig .tc := ⟨.hbm, 41, rfl⟩
abbrev main_call2_v9 : Ref sig .tc := ⟨.hbm, 42, rfl⟩
abbrev main_call2_v10 : Ref sig .tc := ⟨.hbm, 43, rfl⟩
abbrev main_call2_v11 : Ref sig .tc := ⟨.hbm, 44, rfl⟩
abbrev main_call2_c_0 : Ref sig .tc := ⟨.hbm, 45, rfl⟩
abbrev main_call2_v12 : Ref sig .tc := ⟨.hbm, 46, rfl⟩
abbrev main_call2_v13 : Ref sig .tc := ⟨.hbm, 47, rfl⟩
abbrev main_v14 : Ref sig .tc := ⟨.hbm, 48, rfl⟩
abbrev main_c_5 : Ref sig .tc := ⟨.hbm, 49, rfl⟩
abbrev main_call3_v0 : Ref sig .tc := ⟨.hbm, 50, rfl⟩
abbrev main_call3_c : Ref sig .tc := ⟨.hbm, 51, rfl⟩
abbrev main_call3_v1 : Ref sig .tc := ⟨.hbm, 52, rfl⟩
abbrev main_call3_c_0 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_call3_c_1 : Ref sig .tc := ⟨.hbm, 57, rfl⟩
abbrev main_call3_v5 : Ref sig .tc := ⟨.hbm, 58, rfl⟩
abbrev main_call3_v6 : Ref sig .tc := ⟨.hbm, 59, rfl⟩
abbrev main_call3_c_2 : Ref sig .tc := ⟨.hbm, 60, rfl⟩
abbrev main_call3_v7 : Ref sig .tc := ⟨.hbm, 61, rfl⟩
abbrev main_call3_v8 : Ref sig .tc := ⟨.hbm, 62, rfl⟩
abbrev main_call3_c_3 : Ref sig .tc := ⟨.hbm, 63, rfl⟩
abbrev main_call3_v9 : Ref sig .tc := ⟨.hbm, 64, rfl⟩
abbrev main_call3_v10 : Ref sig .tc := ⟨.hbm, 65, rfl⟩
abbrev main_call3_v11 : Ref sig .tc := ⟨.hbm, 66, rfl⟩
abbrev main_call3_v12 : Ref sig .tc := ⟨.hbm, 67, rfl⟩
abbrev main_call3_v13 : Ref sig .tc := ⟨.hbm, 68, rfl⟩
abbrev main_call3_v14 : Ref sig .tc := ⟨.hbm, 69, rfl⟩
abbrev main_v15 : Ref sig .tc := ⟨.hbm, 70, rfl⟩
abbrev main_c_6 : Ref sig .tc := ⟨.hbm, 71, rfl⟩
abbrev main_call4_v0 : Ref sig .tc := ⟨.hbm, 72, rfl⟩
abbrev main_call4_v1 : Ref sig .tc := ⟨.hbm, 73, rfl⟩
abbrev main_call4_v2 : Ref sig .tc := ⟨.hbm, 74, rfl⟩
abbrev main_call4_v3 : Ref sig .tc := ⟨.hbm, 75, rfl⟩
abbrev main_call4_v4 : Ref sig .tc := ⟨.hbm, 76, rfl⟩
abbrev main_call4_v5 : Ref sig .tc := ⟨.hbm, 77, rfl⟩
abbrev main_call4_v6 : Ref sig .tc := ⟨.hbm, 78, rfl⟩
abbrev main_call4_v7 : Ref sig .tc := ⟨.hbm, 79, rfl⟩
abbrev main_call4_v8 : Ref sig .tc := ⟨.hbm, 80, rfl⟩
abbrev main_call4_c : Ref sig .tc := ⟨.hbm, 81, rfl⟩
abbrev main_call4_v9 : Ref sig .tc := ⟨.hbm, 82, rfl⟩
abbrev main_call4_v10 : Ref sig .tc := ⟨.hbm, 83, rfl⟩
abbrev main_call4_v11 : Ref sig .tc := ⟨.hbm, 84, rfl⟩
abbrev main_call4_c_0 : Ref sig .tc := ⟨.hbm, 85, rfl⟩
abbrev main_call4_v12 : Ref sig .tc := ⟨.hbm, 86, rfl⟩
abbrev main_call4_v13 : Ref sig .tc := ⟨.hbm, 87, rfl⟩
abbrev main_v16 : Ref sig .tc := ⟨.hbm, 88, rfl⟩
abbrev main_v17 : Ref sig .tc := ⟨.hbm, 89, rfl⟩
abbrev main_c_7 : Ref sig .tc := ⟨.hbm, 90, rfl⟩
abbrev main_call5_v0 : Ref sig .tc := ⟨.hbm, 91, rfl⟩
abbrev main_call5_c : Ref sig .tc := ⟨.hbm, 92, rfl⟩
abbrev main_call5_v1 : Ref sig .tc := ⟨.hbm, 93, rfl⟩
abbrev main_call5_c_0 : Ref sig .tc := ⟨.hbm, 94, rfl⟩
abbrev main_call5_v2 : Ref sig .tc := ⟨.hbm, 95, rfl⟩
abbrev main_call5_v3 : Ref sig .tc := ⟨.hbm, 96, rfl⟩
abbrev main_call5_v4 : Ref sig .tc := ⟨.hbm, 97, rfl⟩
abbrev main_call5_c_1 : Ref sig .tc := ⟨.hbm, 98, rfl⟩
abbrev main_call5_v5 : Ref sig .tc := ⟨.hbm, 99, rfl⟩
abbrev main_call5_v6 : Ref sig .tc := ⟨.hbm, 100, rfl⟩
abbrev main_call5_c_2 : Ref sig .tc := ⟨.hbm, 101, rfl⟩
abbrev main_call5_v7 : Ref sig .tc := ⟨.hbm, 102, rfl⟩
abbrev main_call5_v8 : Ref sig .tc := ⟨.hbm, 103, rfl⟩
abbrev main_call5_c_3 : Ref sig .tc := ⟨.hbm, 104, rfl⟩
abbrev main_call5_v9 : Ref sig .tc := ⟨.hbm, 105, rfl⟩
abbrev main_call5_v10 : Ref sig .tc := ⟨.hbm, 106, rfl⟩
abbrev main_call5_v11 : Ref sig .tc := ⟨.hbm, 107, rfl⟩
abbrev main_call5_v12 : Ref sig .tc := ⟨.hbm, 108, rfl⟩
abbrev main_call5_v13 : Ref sig .tc := ⟨.hbm, 109, rfl⟩
abbrev main_call5_v14 : Ref sig .tc := ⟨.hbm, 110, rfl⟩
abbrev main_v18 : Ref sig .tc := ⟨.hbm, 111, rfl⟩
abbrev main_v19 : Ref sig .tc := ⟨.hbm, 112, rfl⟩
abbrev main_v20 : Ref sig .tc := ⟨.hbm, 113, rfl⟩
abbrev main_v21 : Ref sig .tc := ⟨.hbm, 114, rfl⟩
abbrev main_v22 : Ref sig .tc := ⟨.hbm, 115, rfl⟩
abbrev main_v23 : Ref sig .tc := ⟨.hbm, 116, rfl⟩
abbrev main_call6_c : Ref sig .tc := ⟨.hbm, 117, rfl⟩
abbrev main_call6_v0 : Ref sig .tc := ⟨.hbm, 118, rfl⟩
abbrev main_call6_v1 : Ref sig .tc := ⟨.hbm, 119, rfl⟩
abbrev main_call6_c_0 : Ref sig .tc := ⟨.hbm, 120, rfl⟩
abbrev main_call6_v2 : Ref sig .tc := ⟨.hbm, 121, rfl⟩
abbrev main_call6_v3 : Ref sig .tc := ⟨.hbm, 122, rfl⟩
abbrev main_call6_v4 : Ref sig .tc := ⟨.hbm, 123, rfl⟩
abbrev main_call6_v5 : Ref sig .tc := ⟨.hbm, 124, rfl⟩
abbrev main_call6_c_1 : Ref sig .tc := ⟨.hbm, 125, rfl⟩
abbrev main_call6_c_2 : Ref sig .tc := ⟨.hbm, 126, rfl⟩
abbrev main_call6_v6 : Ref sig .tc := ⟨.hbm, 127, rfl⟩
abbrev main_call6_v7 : Ref sig .tc := ⟨.hbm, 128, rfl⟩
abbrev main_call6_v8 : Ref sig .tc := ⟨.hbm, 129, rfl⟩
abbrev main_call6_v9 : Ref sig .tc := ⟨.hbm, 130, rfl⟩
abbrev main_call6_v10 : Ref sig .tc := ⟨.hbm, 131, rfl⟩
abbrev main_call6_v11 : Ref sig .tc := ⟨.hbm, 132, rfl⟩
abbrev main_call6_c_3 : Ref sig .tc := ⟨.hbm, 133, rfl⟩
abbrev main_call6_v12 : Ref sig .tc := ⟨.hbm, 134, rfl⟩
abbrev main_call6_v13 : Ref sig .tc := ⟨.hbm, 135, rfl⟩
abbrev main_call6_v14 : Ref sig .tc := ⟨.hbm, 136, rfl⟩
abbrev main_call6_cst : Ref sig .tc := ⟨.hbm, 137, rfl⟩
abbrev main_call6_v15 : Ref sig .tc := ⟨.hbm, 138, rfl⟩
abbrev main_v24 : Ref sig .tc := ⟨.hbm, 139, rfl⟩
abbrev main_v25 : Ref sig .tc := ⟨.hbm, 140, rfl⟩
abbrev main_v26 : Ref sig .tc := ⟨.hbm, 141, rfl⟩
abbrev main_call7_c : Ref sig .tc := ⟨.hbm, 142, rfl⟩
abbrev main_call7_v0 : Ref sig .tc := ⟨.hbm, 143, rfl⟩
abbrev main_call7_v1 : Ref sig .tc := ⟨.hbm, 144, rfl⟩
abbrev main_call7_c_0 : Ref sig .tc := ⟨.hbm, 145, rfl⟩
abbrev main_call7_v2 : Ref sig .tc := ⟨.hbm, 146, rfl⟩
abbrev main_call7_v3 : Ref sig .tc := ⟨.hbm, 147, rfl⟩
abbrev main_call7_v4 : Ref sig .tc := ⟨.hbm, 148, rfl⟩
abbrev main_call7_v5 : Ref sig .tc := ⟨.hbm, 149, rfl⟩
abbrev main_call7_c_1 : Ref sig .tc := ⟨.hbm, 150, rfl⟩
abbrev main_call7_c_2 : Ref sig .tc := ⟨.hbm, 151, rfl⟩
abbrev main_call7_v6 : Ref sig .tc := ⟨.hbm, 152, rfl⟩
abbrev main_call7_v7 : Ref sig .tc := ⟨.hbm, 153, rfl⟩
abbrev main_call7_v8 : Ref sig .tc := ⟨.hbm, 154, rfl⟩
abbrev main_call7_v9 : Ref sig .tc := ⟨.hbm, 155, rfl⟩
abbrev main_call7_v10 : Ref sig .tc := ⟨.hbm, 156, rfl⟩
abbrev main_call7_v11 : Ref sig .tc := ⟨.hbm, 157, rfl⟩
abbrev main_call7_c_3 : Ref sig .tc := ⟨.hbm, 158, rfl⟩
abbrev main_call7_v12 : Ref sig .tc := ⟨.hbm, 159, rfl⟩
abbrev main_call7_v13 : Ref sig .tc := ⟨.hbm, 160, rfl⟩
abbrev main_call7_v14 : Ref sig .tc := ⟨.hbm, 161, rfl⟩
abbrev main_call7_cst : Ref sig .tc := ⟨.hbm, 162, rfl⟩
abbrev main_call7_v15 : Ref sig .tc := ⟨.hbm, 163, rfl⟩
abbrev main_v27 : Ref sig .tc := ⟨.hbm, 164, rfl⟩
abbrev main_v28 : Ref sig .tc := ⟨.hbm, 165, rfl⟩
abbrev main_v29 : Ref sig .tc := ⟨.hbm, 166, rfl⟩
abbrev main_call8_c : Ref sig .tc := ⟨.hbm, 167, rfl⟩
abbrev main_call8_v0 : Ref sig .tc := ⟨.hbm, 168, rfl⟩
abbrev main_call8_v1 : Ref sig .tc := ⟨.hbm, 169, rfl⟩
abbrev main_call8_c_0 : Ref sig .tc := ⟨.hbm, 170, rfl⟩
abbrev main_call8_v2 : Ref sig .tc := ⟨.hbm, 171, rfl⟩
abbrev main_call8_v3 : Ref sig .tc := ⟨.hbm, 172, rfl⟩
abbrev main_call8_v4 : Ref sig .tc := ⟨.hbm, 173, rfl⟩
abbrev main_call8_v5 : Ref sig .tc := ⟨.hbm, 174, rfl⟩
abbrev main_call8_c_1 : Ref sig .tc := ⟨.hbm, 175, rfl⟩
abbrev main_call8_c_2 : Ref sig .tc := ⟨.hbm, 176, rfl⟩
abbrev main_call8_v6 : Ref sig .tc := ⟨.hbm, 177, rfl⟩
abbrev main_call8_v7 : Ref sig .tc := ⟨.hbm, 178, rfl⟩
abbrev main_call8_v8 : Ref sig .tc := ⟨.hbm, 179, rfl⟩
abbrev main_call8_v9 : Ref sig .tc := ⟨.hbm, 180, rfl⟩
abbrev main_call8_v10 : Ref sig .tc := ⟨.hbm, 181, rfl⟩
abbrev main_call8_v11 : Ref sig .tc := ⟨.hbm, 182, rfl⟩
abbrev main_call8_c_3 : Ref sig .tc := ⟨.hbm, 183, rfl⟩
abbrev main_call8_v12 : Ref sig .tc := ⟨.hbm, 184, rfl⟩
abbrev main_call8_v13 : Ref sig .tc := ⟨.hbm, 185, rfl⟩
abbrev main_call8_v14 : Ref sig .tc := ⟨.hbm, 186, rfl⟩
abbrev main_call8_cst : Ref sig .tc := ⟨.hbm, 187, rfl⟩
abbrev main_call8_v15 : Ref sig .tc := ⟨.hbm, 188, rfl⟩
abbrev main_v30 : Ref sig .tc := ⟨.hbm, 189, rfl⟩
abbrev main_v31 : Ref sig .tc := ⟨.hbm, 190, rfl⟩
abbrev main_v32 : Ref sig .tc := ⟨.hbm, 191, rfl⟩
abbrev main_call9_c : Ref sig .tc := ⟨.hbm, 192, rfl⟩
abbrev main_call9_v0 : Ref sig .tc := ⟨.hbm, 193, rfl⟩
abbrev main_call9_v1 : Ref sig .tc := ⟨.hbm, 194, rfl⟩
abbrev main_call9_c_0 : Ref sig .tc := ⟨.hbm, 195, rfl⟩
abbrev main_call9_v2 : Ref sig .tc := ⟨.hbm, 196, rfl⟩
abbrev main_call9_v3 : Ref sig .tc := ⟨.hbm, 197, rfl⟩
abbrev main_call9_v4 : Ref sig .tc := ⟨.hbm, 198, rfl⟩
abbrev main_call9_v5 : Ref sig .tc := ⟨.hbm, 199, rfl⟩
abbrev main_call9_c_1 : Ref sig .tc := ⟨.hbm, 200, rfl⟩
abbrev main_call9_c_2 : Ref sig .tc := ⟨.hbm, 201, rfl⟩
abbrev main_call9_v6 : Ref sig .tc := ⟨.hbm, 202, rfl⟩
abbrev main_call9_v7 : Ref sig .tc := ⟨.hbm, 203, rfl⟩
abbrev main_call9_v8 : Ref sig .tc := ⟨.hbm, 204, rfl⟩
abbrev main_call9_v9 : Ref sig .tc := ⟨.hbm, 205, rfl⟩
abbrev main_call9_v10 : Ref sig .tc := ⟨.hbm, 206, rfl⟩
abbrev main_call9_v11 : Ref sig .tc := ⟨.hbm, 207, rfl⟩
abbrev main_call9_c_3 : Ref sig .tc := ⟨.hbm, 208, rfl⟩
abbrev main_call9_v12 : Ref sig .tc := ⟨.hbm, 209, rfl⟩
abbrev main_call9_v13 : Ref sig .tc := ⟨.hbm, 210, rfl⟩
abbrev main_call9_v14 : Ref sig .tc := ⟨.hbm, 211, rfl⟩
abbrev main_call9_cst : Ref sig .tc := ⟨.hbm, 212, rfl⟩
abbrev main_call9_v15 : Ref sig .tc := ⟨.hbm, 213, rfl⟩
abbrev main_v33 : Ref sig .tc := ⟨.hbm, 214, rfl⟩
abbrev main_v34 : Ref sig .tc := ⟨.hbm, 215, rfl⟩
abbrev main_v35 : Ref sig .tc := ⟨.hbm, 216, rfl⟩
abbrev main_cst_8 : Ref sig .tc := ⟨.hbm, 217, rfl⟩
abbrev main_v36 : Ref sig .tc := ⟨.hbm, 218, rfl⟩
abbrev main_v37 : Ref sig .tc := ⟨.hbm, 219, rfl⟩
abbrev main_v38 : Ref sig .tc := ⟨.hbm, 220, rfl⟩
abbrev main_cst_9 : Ref sig .tc := ⟨.hbm, 221, rfl⟩
abbrev main_v39 : Ref sig .tc := ⟨.hbm, 222, rfl⟩
abbrev main_v40 : Ref sig .tc := ⟨.hbm, 223, rfl⟩
abbrev main_v41 : Ref sig .tc := ⟨.hbm, 224, rfl⟩
abbrev main_cst_10 : Ref sig .tc := ⟨.hbm, 225, rfl⟩
abbrev main_v42 : Ref sig .tc := ⟨.hbm, 226, rfl⟩
abbrev main_v43 : Ref sig .tc := ⟨.hbm, 227, rfl⟩
abbrev main_v44 : Ref sig .tc := ⟨.hbm, 228, rfl⟩
abbrev main_cst_11 : Ref sig .tc := ⟨.hbm, 229, rfl⟩
abbrev main_v45 : Ref sig .tc := ⟨.hbm, 230, rfl⟩
abbrev main_v46 : Ref sig .tc := ⟨.hbm, 231, rfl⟩
abbrev main_v47 : Ref sig .tc := ⟨.hbm, 232, rfl⟩
abbrev main_v48 : Ref sig .tc := ⟨.hbm, 233, rfl⟩
abbrev main_v49 : Ref sig .tc := ⟨.hbm, 234, rfl⟩
abbrev main_v50 : Ref sig .tc := ⟨.hbm, 235, rfl⟩
abbrev main_v51 : Ref sig .tc := ⟨.hbm, 236, rfl⟩
abbrev main_v52 : Ref sig .tc := ⟨.hbm, 237, rfl⟩
abbrev main_cst_12 : Ref sig .tc := ⟨.hbm, 238, rfl⟩
abbrev main_v53 : Ref sig .tc := ⟨.hbm, 239, rfl⟩
abbrev main_v54 : Ref sig .tc := ⟨.hbm, 240, rfl⟩
abbrev main_v55 : Ref sig .tc := ⟨.hbm, 241, rfl⟩
abbrev main_v56 : Ref sig .tc := ⟨.hbm, 242, rfl⟩
abbrev main_v57 : Ref sig .tc := ⟨.hbm, 243, rfl⟩
abbrev main_v58 : Ref sig .tc := ⟨.hbm, 244, rfl⟩

abbrev nD : Nat := 1
abbrev τ : Topo := Topo.v7x

variable {F : FTy → Type} [FloatOps F]
-- ==== Proof.Peak.lean ====
module

public import Idealize.ShloMosaic.Lib.Pointwise

@[expose] public section

set_option maxRecDepth 16384

/-! The mathematics of one channel, a 128 by 128 plane of extended reals: the heat, the greatest value of a 3 by 3
neighbourhood as the kernel takes it (first along a row, then along a column, with a very small number past the
border), and the value that survives the suppression. -/

noncomputable section

namespace Cert.Decode

open Idealize.ShloMosaic

/-- The heat of a score: its logistic value, held between the two clip bounds. -/
def heat (v : EReal) : EReal :=
  min (Ideal.ofBits .f32 0x3F7FF972#32) (max (Ideal.ofBits .f32 0x38D1B717#32) (Ideal.logistic v))

/-- The number the kernel puts past the border of a channel. -/
def border : EReal := Ideal.ofBits .f32 0xF149F2CA#32

/-- The border number is below every heat. -/
theorem border_le_heat (v : EReal) : border ≤ heat v := by
  have h1 : border ≤ Ideal.ofBits .f32 0x3F7FF972#32 := by
    simp [border, Ideal.ofBits, Ideal.ieee, -EReal.coe_mul]; norm_num
    rw [← EReal.coe_neg, EReal.coe_le_coe_iff]; norm_num
  have h2 : border ≤ Ideal.ofBits .f32 0x38D1B717#32 := by
    simp [border, Ideal.ofBits, Ideal.ieee, -EReal.coe_mul]; norm_num
    rw [← EReal.coe_neg, EReal.coe_le_coe_iff]; norm_num
  exact le_min h1 (h2.trans (le_max_left _ _))

/-- The pattern of minus infinity denotes the least extended real. -/
theorem minus_infinity : Ideal.ofBits .f32 0xFF800000#32 = ⊥ := by
  simp [Ideal.ofBits, Ideal.ieee]

/-- Two positions of a line that are equal or next to one another. -/
def Near (a b : Fin 128) : Prop := a.val ≤ b.val + 1 ∧ b.val ≤ a.val + 1

/-- A position is near itself. -/
theorem Near.refl (a : Fin 128) : Near a a := ⟨by omega, by omega⟩

/-- The greatest of a line's value at `x` and at its two neighbours, the border number standing for a neighbour that is
missing. -/
def lineMax (h : Fin 128 → EReal) (x : Fin 128) : EReal :=
  max (h x) (max (if hx : x.val < 127 then h ⟨1 + x.val, by omega⟩ else border)
    (if hx : x.val < 1 then border else h ⟨x.val - 1, by omega⟩))

/-- Against a bound that is at least the border number, `lineMax` is the maximum over the neighbouring positions. -/
theorem lineMax_le (h : Fin 128 → EReal) (x : Fin 128) (b : EReal) (hb : border ≤ b) :
    lineMax h x ≤ b ↔ ∀ x' : Fin 128, Near x' x → h x' ≤ b := by
  unfold lineMax
  constructor
  · intro H x' hx'
    obtain ⟨h0, h12⟩ := max_le_iff.mp H
    obtain ⟨h1, h2⟩ := max_le_iff.mp h12
    obtain ⟨n1, n2⟩ := hx'
    rcases Nat.lt_trichotomy x'.val x.val with hlt | heq | hgt
    · rw [dif_neg (by omega)] at h2
      have e : x' = ⟨x.val - 1, by omega⟩ := Fin.ext (by simp only; omega)
      rw [e]; exact h2
    · rw [Fin.ext heq]; exact h0
    · have := x'.isLt
      rw [dif_pos (by omega)] at h1
      have e : x' = ⟨1 + x.val, by omega⟩ := Fin.ext (by simp only; omega)
      rw [e]; exact h1
  · intro H
    refine max_le (H x (Near.refl x)) (max_le ?_ ?_)
    · split
      · exact H _ ⟨by simp only; omega, by simp only; omega⟩
      · exact hb
    · split
      · exact hb
      · exact H _ ⟨by simp only; omega, by simp only; omega⟩

/-- The greatest value of the 3 by 3 neighbourhood of `(y, x)` as the kernel takes it. -/
def kernelMax (p : Fin 128 → Fin 128 → EReal) (y x : Fin 128) : EReal :=
  lineMax (fun y' => lineMax (p y') x) y

/-- Against a bound that is at least the border number, `kernelMax` is the maximum over the neighbourhood. -/
theorem kernelMax_le (p : Fin 128 → Fin 128 → EReal) (y x : Fin 128) (b : EReal) (hb : border ≤ b) :
    kernelMax p y x ≤ b ↔ ∀ y' : Fin 128, Near y' y → ∀ x' : Fin 128, Near x' x → p y' x' ≤ b := by
  unfold kernelMax
  rw [lineMax_le _ _ _ hb]
  exact forall_congr' fun y' => imp_congr_right fun _ => lineMax_le _ _ _ hb

/-- A number `M` that is the maximum of the neighbourhood equals the value in the middle exactly when no neighbour exceeds
that value. -/
theorem eq_middle_iff (p : Fin 128 → Fin 128 → EReal) (y x : Fin 128) (M c : EReal) (hc : c ≤ p y x) (hcM : c ≤ M)
    (hM : ∀ b, c ≤ b → (M ≤ b ↔ ∀ y' : Fin 128, Near y' y → ∀ x' : Fin 128, Near x' x → p y' x' ≤ b)) :
    M = p y x ↔ ∀ y' : Fin 128, Near y' y → ∀ x' : Fin 128, Near x' x → p y' x' ≤ p y x := by
  rw [← hM _ hc]
  exact ⟨le_of_eq, fun h => le_antisymm h ((hM M hcM).mp le_rfl y (Near.refl y) x (Near.refl x))⟩

open Classical in
/-- What survives at `(y, x)`: the value itself if no neighbour exceeds it, zero otherwise. -/
def survivor (p : Fin 128 → Fin 128 → EReal) (y x : Fin 128) : EReal :=
  if ∀ y' : Fin 128, Near y' y → ∀ x' : Fin 128, Near x' x → p y' x' ≤ p y x then p y x else 0

/-- The middle value is among the values `kernelMax` compares. -/
theorem le_kernelMax (p : Fin 128 → Fin 128 → EReal) (y x : Fin 128) : p y x ≤ kernelMax p y x :=
  (le_max_left (p y x) _).trans (le_max_left (lineMax (p y) x) _)

/-- Keeping the value where it equals `kernelMax` is what survives. -/
theorem survivor_kernel (p : Fin 128 → Fin 128 → EReal) (y x : Fin 128) (hp : border ≤ p y x) :
    (if kernelMax p y x = p y x then p y x else 0) = survivor p y x := by
  classical
  unfold survivor
  exact if_congr (eq_middle_iff p y x _ border hp (hp.trans (le_kernelMax p y x)) fun b hb => kernelMax_le p y x b hb) rfl rfl

end Cert.Decode
-- ==== Proof.Kblock.lean ====
module

public import proofs.«01_k».proof.Proof.Peak
public import proofs.«01_k».proof.Proof.Gen.KernelIdeal.Skeleton

/-! What one grid point of the kernel computes, read at a position of its block. -/

@[expose] public section

set_option maxRecDepth 16384

noncomputable section

namespace Cert.Decode

open Idealize.ShloMosaic Idealize.ShloMosaic.TcCoe Idealize.SL.Sem Cert.KernelIdeal Cert.KernelIdeal.Gen

/-- What the kernel stores for a block of eight channels: at a position, the heat of the channel there when no position
    near it is hotter, and zero otherwise. -/
theorem block_at (v : FVec Ideal S8x128x128 .f32) (c : Fin 8) (y x : Fin 128) :
    k0_pay1 (F := Ideal) v (ix3 c y x) = survivor (fun y' x' => heat (v (ix3 c y' x'))) y x := by
  rw [← survivor_kernel _ y x (border_le_heat _)]
  pointwise [k0_pay1, kernelMax, lineMax, heat, border]

end Cert.Decode
-- ==== Proof.Array.lean ====
module

public import proofs.«01_k».proof.Proof.Kblock
public import proofs.«01_k».proof.Proof.Gen.KernelIdeal.Frame
public import Idealize.ShloMosaic.Lib.Pipeline.ValueKit

/-! The kernel's result array: the ten blocks together hold what survives in every one of the eighty channels. -/

@[expose] public section

set_option maxRecDepth 16384

noncomputable section

namespace Cert.Decode

open Idealize.ShloMosaic Idealize.ShloMosaic.TcCoe Idealize.SL.Sem Cert.KernelIdeal Cert.KernelIdeal.Gen
open Idealize.ShloMosaic.Pipeline (Dat)

/-- What survives in every channel of a heat map that is stored channel by channel. -/
def peaks (A : FVec Ideal S1x80x128x128 .f32) : FVec Ideal S80x128x128 .f32 :=
  fun j => survivor (fun y x => heat (A (ix4 0 (j 0) y x))) (j 1) (j 2)

/-- Point `t` of the grid reads and writes the block of channels number `t`. -/
theorem channel_block : ∀ t : Fin cfg0.N, win0_0.index t = ![t.val, 0, 0] ∧ win0_1.index t = ![t.val, 0, 0] :=
  (by decide +kernel : ∀ t : Fin grid0.N, _)

variable (m : (ℓ : Loc nD τ sig) → Buf (Elt Ideal) ℓ)

/-- The kernel's operand is the heat map without its leading axis of length one. -/
theorem operand (c : Dev nD) : V m c main_v0
    = shapeCast S80x128x128 (m ((c : Thread nD τ).loc main_arg0)) shapeCasts_S1x80x128x128_S80x128x128 := by
  show StableHlo.after hostOps0 (fun b => m (c, b)) (Proc.devRef .tc main_v0) = _
  simp only [hostOps0]
  after_results_simp
  rfl

/-- Dropping the leading axis of length one moves no element. -/
theorem channel_at (A : FVec Ideal S1x80x128x128 .f32) (j : Fin 80) (y x : Fin 128) :
    shapeCast S80x128x128 A shapeCasts_S1x80x128x128_S80x128x128 (ix3 j y x) = A (ix4 0 j y x) := by
  pointwise

/-- The block that point `t` reads is the part of the heat map at the channels it writes. -/
theorem read_block (c : Dev nD) (t : Fin cfg0.N) (k : Fin 8) (y x : Fin 128) (j : Fin 80)
    (hj : j.val = t.val * 8 + k.val) :
    (show FVec Ideal S8x128x128 .f32 from iblk m c 0 t) (ix3 k y x)
      = (show FVec Ideal S1x80x128x128 .f32 from m ((c : Thread nD τ).loc main_arg0)) (ix4 0 j y x) := by
  have e : (show FVec Ideal S8x128x128 .f32 from iblk m c 0 t) (ix3 k y x)
      = (show FVec Ideal S80x128x128 .f32 from V m c main_v0) (ix3 j y x) := by
    blk_ext [iblk, channel_block t]
  refine (e.trans (congrFun (operand m c) _)).trans ?_
  exact channel_at _ j y x

/-- After the run the kernel's result array holds what survives in every channel. -/
theorem result_array (c : Dev nD) : (dats m 0 c).arrAt 1 (cfgs 0).N
    = peaks (m ((c : Thread nD τ).loc main_arg0)) := by
  refine (dats m 0 c).arrAt_eq_of_covers 1 _ (by decide +kernel) fun t _ y => ?_
  blk_simp
  rw [after0_1]
  frame_out
  idx_vars y
  refine (block_at _ y0 y1 y2).trans ?_
  unfold peaks
  have e0 : ((((cfg0.win 1).blk t).view.emb (ix3 y0 y1 y2)) 0).val = t.val * 8 + y0.val := by
    blk_simp [channel_block t]
  have e1 : (((cfg0.win 1).blk t).view.emb (ix3 y0 y1 y2)) 1 = y1 := by
    apply Fin.ext
    blk_simp [channel_block t]
  have e2 : (((cfg0.win 1).blk t).view.emb (ix3 y0 y1 y2)) 2 = y2 := by
    apply Fin.ext
    blk_simp [channel_block t]
  exact congr (congr (congrArg survivor (funext fun y' => funext fun x' => congrArg heat (read_block m c t y0 y' x' _ e0))) e1.symm) e2.symm

end Cert.Decode
-- ==== Proof.Rplane.lean ====
module

public import proofs.«01_k».proof.Proof.Peak
public import proofs.«01_k».proof.Proof.Gen.ReferenceIdeal.Run

/-! The reference's suppressed heat, read at a position: the maximum over the padded three-by-three window, the comparison
and the product together keep a heat when no position near it is hotter, and give zero otherwise. -/

@[expose] public section

set_option maxRecDepth 16384

noncomputable section

namespace Cert.Decode

open Idealize.ShloMosaic Idealize.ShloMosaic.TcCoe Idealize.SL.Sem Cert.ReferenceIdeal Cert.ReferenceIdeal.Gen Cert.ReferenceIdeal.Value Idealize.ShloMosaic.StableHlo

/-- The reference's heat, read at a position. -/
theorem heat_at (Y : Valuation τ sig (Elt Ideal)) (c : Fin 80) (y x : Fin 128) :
    (show FVec Ideal S1x80x128x128 .f32 from res_main_v6 Y) (ix4 0 c y x)
      = heat ((show FVec Ideal S1x80x128x128 .f32 from Y (Proc.devRef .tc main_arg0)) (ix4 0 c y x)) := by
  pointwise [res_main_v6, heat]
  rfl

/-- A plane with a frame of width one around it, whose value is the least extended real. -/
def framed (p : Fin 128 → Fin 128 → EReal) (y x : ℕ) : EReal :=
  if h : (1 ≤ y ∧ y - 1 < 128) ∧ 1 ≤ x ∧ x - 1 < 128 then p ⟨y - 1, h.1.2⟩ ⟨x - 1, h.2.2⟩ else ⊥

/-- The reference's padded heat, read at a position. -/
theorem pad_at (h : FVec Ideal S1x80x128x128 .f32) (c : Fin 80) (y x : Fin 130) :
    pad S1x80x130x130 ![0, 0, 1, 1] ![0, 0, 1, 1] ![0, 0, 0, 0] h (id (constant (F := Ideal) S_ .f32 0xFF800000#32))
        pads_S1x80x128x128_S1x80x130x130_000_000_110_110 h_S_ (ix4 0 c y x)
      = framed (fun y' x' => h (ix4 0 c y' x')) y x := by
  have e : id (constant (F := Ideal) S_ .f32 0xFF800000#32) (Shape.Idx.first h_S_) = ⊥ := minus_infinity
  pointwise [framed, e]

/-- A running maximum stays below a bound exactly when its start and every term do. -/
theorem foldl_max_le {α : Type} (g : α → EReal) (l : List α) (v b : EReal) :
    l.foldl (fun r n => max r (g n)) v ≤ b ↔ v ≤ b ∧ ∀ n ∈ l, g n ≤ b := by
  induction l generalizing v with
  | nil => simp
  | cons a l ih => rw [List.foldl_cons, ih, max_le_iff, List.forall_mem_cons, and_assoc]

/-- The condition under which an element of the window of `(y, x)` lies inside the padded array. -/
abbrev Inside (c : Fin 80) (y x : Fin 128) (w : (⟨4, ![1, 1, 3, 3]⟩ : Shape).Idx) : Prop :=
  ∀ a : Fin 4, (![0, 0, 0, 0] : Fin 4 → ℕ) a ≤ (ix4 (0 : Fin 1) c y x a).val * (![1, 1, 1, 1] : Fin 4 → ℕ) a + (w a).val
    ∧ (ix4 (0 : Fin 1) c y x a).val * (![1, 1, 1, 1] : Fin 4 → ℕ) a + (w a).val - (![0, 0, 0, 0] : Fin 4 → ℕ) a
      < (![1, 80, 130, 130] : Fin 4 → ℕ) a

/-- Every element of every window does. -/
theorem inside (c : Fin 80) (y x : Fin 128) (w : (⟨4, ![1, 1, 3, 3]⟩ : Shape).Idx) : Inside c y x w := by
  intro a
  idx_vars w
  have := c.isLt; have := y.isLt; have := x.isLt
  have := w0.isLt; have := w1.isLt; have := w2.isLt; have := w3.isLt
  fin_cases a
  all_goals simp
  all_goals omega

/-- The element of the window of `(y, x)` at row `i` and column `k`. -/
theorem window_term (u : FVec Ideal S1x80x130x130 .f32) (v : EReal) (c : Fin 80) (y x : Fin 128)
    (w : (⟨4, ![1, 1, 3, 3]⟩ : Shape).Idx) (i k : Fin 3) (hw : w = ix4 0 0 i k) (d : Decidable (Inside c y x w)) :
    (if hin : Inside c y x w then u (fun a => ⟨(ix4 (0 : Fin 1) c y x a).val * (![1, 1, 1, 1] : Fin 4 → ℕ) a + (w a).val
        - (![0, 0, 0, 0] : Fin 4 → ℕ) a, (hin a).2⟩) else v)
      = u (ix4 0 c ⟨y.val + i.val, by omega⟩ ⟨x.val + k.val, by omega⟩) := by
  subst hw
  rw [dif_pos (inside c y x _)]
  refine congrArg u ?_
  funext a
  fin_cases a <;> simp [Fin.ext_iff]

/-- The reference's window maximum stays below a bound exactly when the initial value and the nine elements of the window
do. -/
theorem window_le (u : FVec Ideal S1x80x130x130 .f32) (v : FVec Ideal S_ .f32) (c : Fin 80) (y x : Fin 128) (b : EReal) :
    (show EReal from Host.reduceWindow (FloatOps.maximumf (F := Ideal) (φ := .f32)) ![1, 1, 3, 3] ![1, 1, 1, 1] ![0, 0, 0, 0] ![0, 0, 0, 0] u v
        reduceWindows_S1x80x130x130_S1x80x128x128_w1s1p0_0_w1s1p0_0_w3s1p0_0_w3s1p0_0 h_S_ (ix4 0 c y x)) ≤ b
      ↔ (show EReal from v (Shape.Idx.first h_S_)) ≤ b
        ∧ ∀ i k : Fin 3, (show EReal from u (ix4 0 c ⟨y.val + i.val, by omega⟩ ⟨x.val + k.val, by omega⟩)) ≤ b := by
  refine (foldl_max_le _ _ _ b).trans (and_congr Iff.rfl ?_)
  constructor
  · intro H i k
    exact (le_of_eq (window_term u _ c y x _ i k (Equiv.symm_apply_apply _ _) _).symm).trans
      (H ((⟨4, ![1, 1, 3, 3]⟩ : Shape).rowMajor (ix4 0 0 i k)) (List.mem_finRange _))
  · intro H n _
    refine (le_of_eq (window_term u _ c y x _ ((⟨4, ![1, 1, 3, 3]⟩ : Shape).rowMajor.symm n 2)
      ((⟨4, ![1, 1, 3, 3]⟩ : Shape).rowMajor.symm n 3) ?_ _)).trans (H _ _)
    generalize (⟨4, ![1, 1, 3, 3]⟩ : Shape).rowMajor.symm n = w
    idx_vars w
    rw [Subsingleton.elim w0 0, Subsingleton.elim w1 0]

/-- All nine elements of a window of the framed plane stay below a bound exactly when the neighbours in the plane do. -/
theorem framed_le (p : Fin 128 → Fin 128 → EReal) (y x : Fin 128) (b : EReal) :
    (∀ i k : Fin 3, framed p (y.val + i.val) (x.val + k.val) ≤ b)
      ↔ ∀ y' : Fin 128, Near y' y → ∀ x' : Fin 128, Near x' x → p y' x' ≤ b := by
  constructor
  · intro H y' hy' x' hx'
    obtain ⟨a1, a2⟩ := hy'
    obtain ⟨b1, b2⟩ := hx'
    have hh := H ⟨y'.val + 1 - y.val, by omega⟩ ⟨x'.val + 1 - x.val, by omega⟩
    have ly := y'.isLt
    have lx := x'.isLt
    unfold framed at hh
    rw [dif_pos (by simp only; omega)] at hh
    refine (le_of_eq ?_).trans hh
    congr 1 <;> simp only [Fin.ext_iff] <;> omega
  · intro H i k
    have := i.isLt
    have := k.isLt
    unfold framed
    split
    · exact H _ ⟨by simp only; omega, by simp only; omega⟩ _ ⟨by simp only; omega, by simp only; omega⟩
    · exact bot_le

/-- The reference's suppressed heat before it is flattened. -/
def suppressed (h : FVec Ideal S1x80x128x128 .f32) : FVec Ideal S1x80x128x128 .f32 :=
  mulf h (uitofp .f32 (cmpf .oeq (Host.reduceWindow FloatOps.maximumf ![1, 1, 3, 3] ![1, 1, 1, 1] ![0, 0, 0, 0] ![0, 0, 0, 0]
    (pad S1x80x130x130 ![0, 0, 1, 1] ![0, 0, 1, 1] ![0, 0, 0, 0] h (id (constant (F := Ideal) S_ .f32 0xFF800000#32))
      pads_S1x80x128x128_S1x80x130x130_000_000_110_110 h_S_)
    (broadcastInDim S_ ![] bcast_S_S_ (constant (F := Ideal) S_ .f32 0xFF800000#32))
    reduceWindows_S1x80x130x130_S1x80x128x128_w1s1p0_0_w1s1p0_0_w3s1p0_0_w3s1p0_0 h_S_) h))

/-- The suppressed heat at a position is what survives of its channel there. -/
theorem suppressed_at (h : FVec Ideal S1x80x128x128 .f32) (c : Fin 80) (y x : Fin 128) :
    suppressed h (ix4 0 c y x) = survivor (fun y' x' => h (ix4 0 c y' x')) y x := by
  unfold suppressed
  generalize hM : Host.reduceWindow (FloatOps.maximumf (F := Ideal) (φ := .f32)) ![1, 1, 3, 3] ![1, 1, 1, 1] ![0, 0, 0, 0] ![0, 0, 0, 0]
    (pad S1x80x130x130 ![0, 0, 1, 1] ![0, 0, 1, 1] ![0, 0, 0, 0] h (id (constant (F := Ideal) S_ .f32 0xFF800000#32))
      pads_S1x80x128x128_S1x80x130x130_000_000_110_110 h_S_)
    (broadcastInDim S_ ![] bcast_S_S_ (constant (F := Ideal) S_ .f32 0xFF800000#32))
    reduceWindows_S1x80x130x130_S1x80x128x128_w1s1p0_0_w1s1p0_0_w3s1p0_0_w3s1p0_0 h_S_ = M
  have hle : ∀ b, (⊥ : EReal) ≤ b → ((show EReal from M (ix4 0 c y x)) ≤ b
      ↔ ∀ y' : Fin 128, Near y' y → ∀ x' : Fin 128, Near x' x → (show EReal from h (ix4 0 c y' x')) ≤ b) := by
    intro b _
    rw [← hM, ← framed_le (fun y' x' => h (ix4 0 c y' x'))]
    refine (window_le _ _ c y x b).trans ?_
    simp only [pad_at]
    refine and_iff_right ?_
    exact (le_of_eq minus_infinity).trans bot_le
  have hm := eq_middle_iff (fun y' x' => h (ix4 0 c y' x')) y x (M (ix4 0 c y x)) ⊥ bot_le bot_le hle
  have hs : (show EReal from h (ix4 0 c y x)) * FloatOps.uitofp (F := Ideal) .f32
        (BitVec.ofBool (decide ((show EReal from M (ix4 0 c y x)) = h (ix4 0 c y x))))
      = survivor (fun y' x' => h (ix4 0 c y' x')) y x := by
    unfold survivor
    by_cases e : (show EReal from M (ix4 0 c y x)) = h (ix4 0 c y x)
    · rw [if_pos (hm.mp e), decide_eq_true e]
      refine Eq.trans ?_ (mul_one _)
      congr 1
      simp [FloatOps.uitofp]
    · rw [if_neg (fun H => e (hm.mpr H)), decide_eq_false e]
      refine Eq.trans ?_ (mul_zero (show EReal from h (ix4 0 c y x)))
      congr 1
      simp [FloatOps.uitofp]
  refine Eq.trans ?_ hs
  pointwise

end Cert.Decode
-- ==== Proof.Tail.lean ====
module

public import proofs.«01_k».proof.Proof.Gen.KernelIdeal.Launch
public import proofs.«01_k».proof.Proof.Gen.ReferenceIdeal.Run
public import Idealize.ShloMosaic.Lib.StableHlo.RunRead

@[expose] public section

set_option maxRecDepth 16384

/-! The host operations behind the pallas_call: top-k, the split of the flat index, the gathers and the boxes.

Kernel and reference carry them out with the same operations in the same order, so their results agree as soon as the
suppressed heat agrees. The lists are read in three pieces, so that each term read stays small: up to the position of a
peak, from there to the corners, and the assembly of the corners and the scores. -/

noncomputable section

namespace Cert.Decode

open Idealize.ShloMosaic Idealize.ShloMosaic.StableHlo Idealize.SL.Sem

variable {F : FTy → Type} [FloatOps F]

/-- Top-k, the class, and the position inside a channel. -/
abbrev peakOps : List (HloOp Cert.KernelIdeal.τ Cert.KernelIdeal.sig (Elt F)) :=
  List.flatten [KernelIdeal.Gen.hostOps1, KernelIdeal.Gen.hostOps1_1, KernelIdeal.Gen.hostOps1_2, KernelIdeal.Gen.hostOps1_3]

/-- From the position to the four corners: row and column, the gathers of offset and size, and the arithmetic. -/
abbrev cornerOps : List (HloOp Cert.KernelIdeal.τ Cert.KernelIdeal.sig (Elt F)) :=
  List.flatten [KernelIdeal.Gen.hostOps1_4, KernelIdeal.Gen.hostOps1_5, KernelIdeal.Gen.hostOps1_6, KernelIdeal.Gen.hostOps1_7,
    KernelIdeal.Gen.hostOps1_8, KernelIdeal.Gen.hostOps1_9, KernelIdeal.Gen.hostOps1_10, KernelIdeal.Gen.hostOps1_11,
    KernelIdeal.Gen.hostOps1_12, KernelIdeal.Gen.hostOps1_13, KernelIdeal.Gen.hostOps1_14, KernelIdeal.Gen.hostOps1_15,
    KernelIdeal.Gen.hostOps1_16.take 22]

/-- The assembly of corners and scores into the two results. -/
abbrev boxOps : List (HloOp Cert.KernelIdeal.τ Cert.KernelIdeal.sig (Elt F)) :=
  KernelIdeal.Gen.hostOps1_16.drop 22

/-- The kernel program's host operations after its pallas_call. -/
abbrev tailOps : List (HloOp Cert.KernelIdeal.τ Cert.KernelIdeal.sig (Elt F)) :=
  List.flatten [KernelIdeal.Gen.hostOps1, KernelIdeal.Gen.hostOps1_1, KernelIdeal.Gen.hostOps1_2, KernelIdeal.Gen.hostOps1_3,
    KernelIdeal.Gen.hostOps1_4, KernelIdeal.Gen.hostOps1_5, KernelIdeal.Gen.hostOps1_6, KernelIdeal.Gen.hostOps1_7,
    KernelIdeal.Gen.hostOps1_8, KernelIdeal.Gen.hostOps1_9, KernelIdeal.Gen.hostOps1_10, KernelIdeal.Gen.hostOps1_11,
    KernelIdeal.Gen.hostOps1_12, KernelIdeal.Gen.hostOps1_13, KernelIdeal.Gen.hostOps1_14, KernelIdeal.Gen.hostOps1_15,
    KernelIdeal.Gen.hostOps1_16]

/-- The host operations are the three pieces one after the other. -/
theorem tail_split (X : Valuation Cert.KernelIdeal.τ Cert.KernelIdeal.sig (Elt F)) :
    after tailOps X = after boxOps (after cornerOps (after peakOps X)) := by
  rw [← after_append, ← after_append]
  rfl

/-- The boxes as a function of the four corner coordinates and the scores: the corners are stacked and scaled, the score
    becomes the fifth column. -/
def boxes (a b c d s : (⟨Cert.ReferenceIdeal.S1x100x1, .f32⟩ : BufTy).Contents (Elt F)) :
    (⟨Cert.ReferenceIdeal.S100x5, .f32⟩ : BufTy).Contents (Elt F) :=
  shapeCast _ (ReferenceIdeal.Value.fn_main_v56
    (mulf (ReferenceIdeal.Value.fn_main_v52 a b c d)
      (broadcastInDim ReferenceIdeal.S1x100x4 ![] ReferenceIdeal.Gen.bcast_S_S1x100x4
        (constant ReferenceIdeal.S_ .f32 0x40800000#32))) s)
    ReferenceIdeal.Gen.shapeCasts_S1x100x5_S100x5

/-- A vector of length one hundred as a column. -/
abbrev column (v : (⟨Cert.ReferenceIdeal.S1x100, .f32⟩ : BufTy).Contents (Elt F)) :
    (⟨Cert.ReferenceIdeal.S1x100x1, .f32⟩ : BufTy).Contents (Elt F) :=
  broadcastInDim ReferenceIdeal.S1x100x1 ![0, 1] ReferenceIdeal.Gen.bcast_S1x100_S1x100x1_0_1 v

/-- Half of a vector. -/
abbrev half (v : (⟨Cert.ReferenceIdeal.S1x100, .f32⟩ : BufTy).Contents (Elt F)) :
    (⟨Cert.ReferenceIdeal.S1x100, .f32⟩ : BufTy).Contents (Elt F) :=
  Host.divf v (broadcastInDim ReferenceIdeal.S1x100 ![] ReferenceIdeal.Gen.bcast_S_S1x100
    (constant ReferenceIdeal.S_ .f32 0x40000000#32))

/-- The reference's first result, written with `boxes`. -/
theorem ref_boxes (Y : Valuation Cert.ReferenceIdeal.τ Cert.ReferenceIdeal.sig (Elt F)) :
    after ReferenceIdeal.Value.ops Y (Proc.devRef .tc ReferenceIdeal.main_v57)
      = boxes (column (subf (ReferenceIdeal.Value.res_main_v34 Y) (half (ReferenceIdeal.Value.res_main_v30 Y))))
          (column (subf (ReferenceIdeal.Value.res_main_v35 Y) (half (ReferenceIdeal.Value.res_main_v33 Y))))
          (column (addf (ReferenceIdeal.Value.res_main_v34 Y) (half (ReferenceIdeal.Value.res_main_v30 Y))))
          (column (addf (ReferenceIdeal.Value.res_main_v35 Y) (half (ReferenceIdeal.Value.res_main_v33 Y))))
          (column (Host.topK ReferenceIdeal.S1x100 1 (FloatOps.cmpfTotal .gt) (ReferenceIdeal.Value.res_main_v13 Y)
            ReferenceIdeal.Gen.sliceFits_S1x1310720_S1x100).1) := by
  rw [ReferenceIdeal.Value.after_ops, ReferenceIdeal.Value.val2_main_v57]
  rfl

/-- The kernel program's last piece computes `boxes`. -/
theorem box_read (W : Valuation Cert.KernelIdeal.τ Cert.KernelIdeal.sig (Elt F)) :
    after boxOps W (Proc.devRef .tc KernelIdeal.main_v47)
      = boxes (W (Proc.devRef .tc KernelIdeal.main_v38)) (W (Proc.devRef .tc KernelIdeal.main_v39))
          (W (Proc.devRef .tc KernelIdeal.main_v40)) (W (Proc.devRef .tc KernelIdeal.main_v41))
          (column (W (Proc.devRef .tc KernelIdeal.main_values))) := by
  simp only [boxOps, List.drop_succ_cons, List.drop_zero]
  after_results_simp
  try dsimp only [Matrix.cons_val]
  try after_results_simp
  rfl

section
variable (X : Valuation Cert.KernelIdeal.τ Cert.KernelIdeal.sig (Elt F))
  (Y : Valuation Cert.ReferenceIdeal.τ Cert.ReferenceIdeal.sig (Elt F))
  (h1 : shapeCast Cert.KernelIdeal.S1x1310720 (shapeCast Cert.KernelIdeal.S1x80x128x128
      (X (Proc.devRef .tc KernelIdeal.main_v1)) KernelIdeal.Gen.shapeCasts_S80x128x128_S1x80x128x128)
      KernelIdeal.Gen.shapeCasts_S1x80x128x128_S1x1310720 = ReferenceIdeal.Value.res_main_v13 Y)
include h1

/-- With the same suppressed heat, top-k gives both programs the same values and positions. -/
theorem topk_eq :
    Host.topK KernelIdeal.S1x100 1 (FloatOps.cmpfTotal CmpDirection.gt)
      (fun i => shapeCast KernelIdeal.main_v3.ty.shape
        (fun i => shapeCast KernelIdeal.main_v2.ty.shape (X (Proc.tc.devRef KernelIdeal.main_v1))
          KernelIdeal.Gen.shapeCasts_S80x128x128_S1x80x128x128 i)
        KernelIdeal.Gen.shapeCasts_S1x80x128x128_S1x1310720 i)
      KernelIdeal.Gen.sliceFits_S1x1310720_S1x100
    = Host.topK ReferenceIdeal.S1x100 1 (FloatOps.cmpfTotal .gt) (ReferenceIdeal.Value.res_main_v13 Y)
            ReferenceIdeal.Gen.sliceFits_S1x1310720_S1x100 := by
  rw [← h1]
  rfl

/-- The scores of the kernel program are the reference's. -/
theorem peak_values :
    after peakOps X (Proc.devRef .tc KernelIdeal.main_values)
      = (Host.topK ReferenceIdeal.S1x100 1 (FloatOps.cmpfTotal .gt) (ReferenceIdeal.Value.res_main_v13 Y)
            ReferenceIdeal.Gen.sliceFits_S1x1310720_S1x100).1 := by
  simp only [peakOps, KernelIdeal.Gen.hostOps1_3, List.flatten_cons, List.flatten_nil, List.append_nil, List.cons_append, List.nil_append,
    TRef.binary, TRef.nullary, TRef.reshape, TRef.ternary, TRef.unary, TRef.toBuf, TRef.ofBuf, cast_eq]
  after_results_simp
  rw [topk_eq X Y h1]

/-- The positions inside a channel are the reference's. -/
theorem peak_pix :
    after peakOps X (Proc.devRef .tc KernelIdeal.main_v5) = ReferenceIdeal.Value.res_main_v15 Y := by
  simp only [peakOps, KernelIdeal.Gen.hostOps1_3, List.flatten_cons, List.flatten_nil, List.append_nil, List.cons_append, List.nil_append,
    TRef.binary, TRef.nullary, TRef.reshape, TRef.ternary, TRef.unary, TRef.toBuf, TRef.ofBuf, cast_eq]
  after_results_simp
  simp only [topk_eq X Y h1]
  rfl

/-- The second result, the classes, is the reference's. -/
theorem tail_classes :
    after tailOps X (Proc.devRef .tc KernelIdeal.main_v48)
      = after ReferenceIdeal.Value.ops Y (Proc.devRef .tc ReferenceIdeal.main_v58) := by
  rw [ReferenceIdeal.Value.after_ops, ReferenceIdeal.Value.val2_main_v58]
  simp only [tailOps, List.flatten_cons, List.flatten_nil, List.append_nil, List.cons_append, List.nil_append,
    TRef.binary, TRef.nullary, TRef.reshape, TRef.ternary, TRef.unary, TRef.toBuf, TRef.ofBuf, cast_eq]
  after_results_simp
  simp only [topk_eq X Y h1]
  rfl

end

section
variable (W : Valuation Cert.KernelIdeal.τ Cert.KernelIdeal.sig (Elt F))
  (Y : Valuation Cert.ReferenceIdeal.τ Cert.ReferenceIdeal.sig (Elt F))
  (hp : W (Proc.devRef .tc KernelIdeal.main_v5) = ReferenceIdeal.Value.res_main_v15 Y)
  (ha : W (Proc.devRef .tc KernelIdeal.main_arg1) = Y (Proc.devRef .tc ReferenceIdeal.main_arg1))
  (hb : W (Proc.devRef .tc KernelIdeal.main_arg2) = Y (Proc.devRef .tc ReferenceIdeal.main_arg2))
include hp ha hb

/-- The left edge. -/
theorem corner_left :
    after cornerOps W (Proc.devRef .tc KernelIdeal.main_v38)
      = column (subf (ReferenceIdeal.Value.res_main_v34 Y) (half (ReferenceIdeal.Value.res_main_v30 Y))) := by
  simp only [cornerOps, List.flatten_cons, List.flatten_nil, List.append_nil, List.cons_append, List.nil_append,
    List.take_succ_cons, List.take_zero,
    TRef.binary, TRef.nullary, TRef.reshape, TRef.ternary, TRef.unary, TRef.toBuf, TRef.ofBuf, cast_eq]
  after_results_simp
  simp only [hp, ha, hb]
  rfl

/-- The upper edge. -/
theorem corner_upper :
    after cornerOps W (Proc.devRef .tc KernelIdeal.main_v39)
      = column (subf (ReferenceIdeal.Value.res_main_v35 Y) (half (ReferenceIdeal.Value.res_main_v33 Y))) := by
  simp only [cornerOps, List.flatten_cons, List.flatten_nil, List.append_nil, List.cons_append, List.nil_append,
    List.take_succ_cons, List.take_zero,
    TRef.binary, TRef.nullary, TRef.reshape, TRef.ternary, TRef.unary, TRef.toBuf, TRef.ofBuf, cast_eq]
  after_results_simp
  simp only [hp, ha, hb]
  rfl

/-- The right edge. -/
theorem corner_right :
    after cornerOps W (Proc.devRef .tc KernelIdeal.main_v40)
      = column (addf (ReferenceIdeal.Value.res_main_v34 Y) (half (ReferenceIdeal.Value.res_main_v30 Y))) := by
  simp only [cornerOps, List.flatten_cons, List.flatten_nil, List.append_nil, List.cons_append, List.nil_append,
    List.take_succ_cons, List.take_zero,
    TRef.binary, TRef.nullary, TRef.reshape, TRef.ternary, TRef.unary, TRef.toBuf, TRef.ofBuf, cast_eq]
  after_results_simp
  simp only [hp, ha, hb]
  rfl

/-- The lower edge. -/
theorem corner_lower :
    after cornerOps W (Proc.devRef .tc KernelIdeal.main_v41)
      = column (addf (ReferenceIdeal.Value.res_main_v35 Y) (half (ReferenceIdeal.Value.res_main_v33 Y))) := by
  simp only [cornerOps, List.flatten_cons, List.flatten_nil, List.append_nil, List.cons_append, List.nil_append,
    List.take_succ_cons, List.take_zero,
    TRef.binary, TRef.nullary, TRef.reshape, TRef.ternary, TRef.unary, TRef.toBuf, TRef.ofBuf, cast_eq]
  after_results_simp
  simp only [hp, ha, hb]
  rfl

end

/-- The middle piece leaves the scores alone. -/
theorem corner_values (W : Valuation Cert.KernelIdeal.τ Cert.KernelIdeal.sig (Elt F)) :
    after cornerOps W (Proc.devRef .tc KernelIdeal.main_values) = W (Proc.devRef .tc KernelIdeal.main_values) := by
  simp only [cornerOps, List.flatten_cons, List.flatten_nil, List.append_nil, List.cons_append, List.nil_append,
    List.take_succ_cons, List.take_zero,
    TRef.binary, TRef.nullary, TRef.reshape, TRef.ternary, TRef.unary, TRef.toBuf, TRef.ofBuf, cast_eq]
  after_results_simp

/-- The first piece leaves the sizes alone. -/
theorem peak_arg1 (W : Valuation Cert.KernelIdeal.τ Cert.KernelIdeal.sig (Elt F)) :
    after peakOps W (Proc.devRef .tc KernelIdeal.main_arg1) = W (Proc.devRef .tc KernelIdeal.main_arg1) := by
  simp only [peakOps, KernelIdeal.Gen.hostOps1_3, List.flatten_cons, List.flatten_nil, List.append_nil, List.cons_append,
    List.nil_append, TRef.binary, TRef.nullary, TRef.reshape, TRef.ternary, TRef.unary, TRef.toBuf, TRef.ofBuf, cast_eq]
  after_results_simp

/-- The first piece leaves the offsets alone. -/
theorem peak_arg2 (W : Valuation Cert.KernelIdeal.τ Cert.KernelIdeal.sig (Elt F)) :
    after peakOps W (Proc.devRef .tc KernelIdeal.main_arg2) = W (Proc.devRef .tc KernelIdeal.main_arg2) := by
  simp only [peakOps, KernelIdeal.Gen.hostOps1_3, List.flatten_cons, List.flatten_nil, List.append_nil, List.cons_append,
    List.nil_append, TRef.binary, TRef.nullary, TRef.reshape, TRef.ternary, TRef.unary, TRef.toBuf, TRef.ofBuf, cast_eq]
  after_results_simp

/-- The first result, the boxes with their scores, is the reference's. -/
theorem tail_boxes (X : Valuation Cert.KernelIdeal.τ Cert.KernelIdeal.sig (Elt F))
    (Y : Valuation Cert.ReferenceIdeal.τ Cert.ReferenceIdeal.sig (Elt F))
    (h1 : shapeCast Cert.KernelIdeal.S1x1310720 (shapeCast Cert.KernelIdeal.S1x80x128x128
        (X (Proc.devRef .tc KernelIdeal.main_v1)) KernelIdeal.Gen.shapeCasts_S80x128x128_S1x80x128x128)
        KernelIdeal.Gen.shapeCasts_S1x80x128x128_S1x1310720 = ReferenceIdeal.Value.res_main_v13 Y)
    (ha : X (Proc.devRef .tc KernelIdeal.main_arg1) = Y (Proc.devRef .tc ReferenceIdeal.main_arg1))
    (hb : X (Proc.devRef .tc KernelIdeal.main_arg2) = Y (Proc.devRef .tc ReferenceIdeal.main_arg2)) :
    after tailOps X (Proc.devRef .tc KernelIdeal.main_v47)
      = after ReferenceIdeal.Value.ops Y (Proc.devRef .tc ReferenceIdeal.main_v57) := by
  have hp := peak_pix X Y h1
  have ha' := (peak_arg1 X).trans ha
  have hb' := (peak_arg2 X).trans hb
  rw [ref_boxes, tail_split, box_read, corner_left _ Y hp ha' hb', corner_upper _ Y hp ha' hb',
    corner_right _ Y hp ha' hb', corner_lower _ Y hp ha' hb', corner_values, peak_values X Y h1]

end Cert.Decode
-- ==== Proof.Equation.lean ====
module

public import proofs.«01_k».proof.Proof.Array
public import proofs.«01_k».proof.Proof.Rplane
public import proofs.«01_k».proof.Proof.Tail

/-! The kernel's suppressed heat is the reference's, and with it both results. -/

@[expose] public section

set_option maxRecDepth 16384

noncomputable section

namespace Cert.Decode

open Idealize.ShloMosaic Idealize.ShloMosaic.TcCoe Idealize.SL.Sem Idealize.ShloMosaic.StableHlo

/-- Adding the leading axis of length one moves no element. -/
theorem with_axis_at (B : FVec Ideal KernelIdeal.S80x128x128 .f32) (c : Fin 80) (y x : Fin 128) :
    shapeCast KernelIdeal.S1x80x128x128 B KernelIdeal.Gen.shapeCasts_S80x128x128_S1x80x128x128 (ix4 0 c y x)
      = B (ix3 c y x) := by
  pointwise

/-- The kernel's array with the leading axis is the reference's suppressed heat. -/
theorem peaks_suppressed (Y : Valuation ReferenceIdeal.τ ReferenceIdeal.sig (Elt Ideal)) :
    shapeCast KernelIdeal.S1x80x128x128 (peaks (Y (Proc.devRef .tc ReferenceIdeal.main_arg0)))
        KernelIdeal.Gen.shapeCasts_S80x128x128_S1x80x128x128
      = suppressed (ReferenceIdeal.Value.res_main_v6 Y) := by
  funext j
  idx_vars j
  obtain rfl : j0 = 0 := Subsingleton.elim _ _
  refine (with_axis_at _ j1 j2 j3).trans (Eq.trans ?_ (suppressed_at _ j1 j2 j3).symm)
  exact congrArg (fun p => survivor p j2 j3) (funext fun y' => funext fun x' => (heat_at Y j1 y' x').symm)

/-- Both programs rank the same flat list. -/
theorem flat_heat (Y : Valuation ReferenceIdeal.τ ReferenceIdeal.sig (Elt Ideal)) :
    shapeCast KernelIdeal.S1x1310720 (shapeCast KernelIdeal.S1x80x128x128
        (peaks (Y (Proc.devRef .tc ReferenceIdeal.main_arg0)))
        KernelIdeal.Gen.shapeCasts_S80x128x128_S1x80x128x128)
        KernelIdeal.Gen.shapeCasts_S1x80x128x128_S1x1310720 = ReferenceIdeal.Value.res_main_v13 Y := by
  rw [peaks_suppressed]
  rfl

end Cert.Decode
-- ==== Proof.Runs.lean ====
module

public import proofs.«01_k».proof.Proof.Equation

/-! The runs of the two programs, and their results against each other. -/

@[expose] public section

set_option maxRecDepth 16384

noncomputable section

namespace Cert.Decode

open Idealize.ShloMosaic Idealize.ShloMosaic.TcCoe Idealize.SL.Sem Idealize.ShloMosaic.StableHlo

section
open Cert.KernelIdeal Cert.KernelIdeal.Gen

variable (m : (ℓ : Loc nD τ sig) → Buf (Elt Ideal) ℓ)

/-- The contents of the buffers when the kernel has run and the operations after it have not. -/
abbrev afterKernel (c : Dev nD) : Valuation τ sig (Elt Ideal) :=
  Pipeline.withArrays (cfgs 0).spec c (V0 m c) fun w => (dats m 0 c).arrAt w (cfgs 0).N

/-- By then the kernel's result buffer holds what survives in every channel. -/
theorem afterKernel_result (c : Dev nD) :
    afterKernel m c (Proc.devRef .tc main_v1) = peaks (m ((c : Thread nD τ).loc main_arg0)) :=
  (Pipeline.withArrays_arr (cfgs 0).spec winFacts0.arr_inj c _ _ 1).trans (result_array m c)

/-- The sizes are as they were launched. -/
theorem afterKernel_sizes (c : Dev nD) :
    afterKernel m c (Proc.devRef .tc main_arg1) = m ((c : Thread nD τ).loc main_arg1) :=
  (Pipeline.withArrays_of_ne (cfgs 0).spec c _ _ main_arg1
    (by exact (by decide : ∀ w, Pipeline.arrRef spec0 w ≠ main_arg1))).trans (V_main_arg1 m c)

/-- The offsets are as they were launched. -/
theorem afterKernel_offsets (c : Dev nD) :
    afterKernel m c (Proc.devRef .tc main_arg2) = m ((c : Thread nD τ).loc main_arg2) :=
  (Pipeline.withArrays_of_ne (cfgs 0).spec c _ _ main_arg2
    (by exact (by decide : ∀ w, Pipeline.arrRef spec0 w ≠ main_arg2))).trans (V_main_arg2 m c)

/-- The kernel's program ends with its results at what the operations after the kernel leave, and its arguments unchanged. -/
theorem kernel_run (g : Dev nD → PrngReg) :
    θ_run (defs (F := Ideal)) (onTc (τ := τ) (main (F := Ideal))) ⟨m, fun _ => 0, g⟩ fun r => ∀ c : Dev nD,
      r.2.mem ((c.tc : Thread nD τ).loc main_v47) = after tailOps (afterKernel m c) (Proc.devRef .tc main_v47)
      ∧ r.2.mem ((c.tc : Thread nD τ).loc main_v48) = after tailOps (afterKernel m c) (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  θ_run_mono (θ_run_and (run_main m g) (unchanged m g)) fun r h c =>
    ⟨(h.1 c).2 main_v47 (Pipeline.mem_restRefs_of main_v47 (by decide) (by decide)),
      (h.1 c).2 main_v48 (Pipeline.mem_restRefs_of main_v48 (by decide) (by decide)), h.2 c⟩
end

/-- The reference's program ends with its results at what its operations leave, and its arguments unchanged. -/
theorem reference_run (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal))) ⟨m, fun _ => 0, g⟩
      fun r => ∀ c : Dev ReferenceIdeal.nD,
      r.2.mem ((c.tc : Thread ReferenceIdeal.nD ReferenceIdeal.τ).loc ReferenceIdeal.main_v57)
        = after ReferenceIdeal.Value.ops (launchContents m c) (Proc.devRef .tc ReferenceIdeal.main_v57)
      ∧ r.2.mem ((c.tc : Thread ReferenceIdeal.nD ReferenceIdeal.τ).loc ReferenceIdeal.main_v58)
        = after ReferenceIdeal.Value.ops (launchContents m c) (Proc.devRef .tc ReferenceIdeal.main_v58)
      ∧ r.2.mem ((c.tc : Thread ReferenceIdeal.nD ReferenceIdeal.τ).loc ReferenceIdeal.main_arg0)
        = m ((c.tc : Thread ReferenceIdeal.nD ReferenceIdeal.τ).loc ReferenceIdeal.main_arg0)
      ∧ r.2.mem ((c.tc : Thread ReferenceIdeal.nD ReferenceIdeal.τ).loc ReferenceIdeal.main_arg1)
        = m ((c.tc : Thread ReferenceIdeal.nD ReferenceIdeal.τ).loc ReferenceIdeal.main_arg1)
      ∧ r.2.mem ((c.tc : Thread ReferenceIdeal.nD ReferenceIdeal.τ).loc ReferenceIdeal.main_arg2)
        = m ((c.tc : Thread ReferenceIdeal.nD ReferenceIdeal.τ).loc ReferenceIdeal.main_arg2) :=
  θ_run_mono (ReferenceIdeal.Value.run m g) fun r h c =>
    ⟨(h c).1.trans ((congrFun (ReferenceIdeal.Value.after_ops (launchContents m c)) _).trans (ReferenceIdeal.Value.val2_main_v57 (launchContents m c))).symm,
      (h c).2.1.trans ((congrFun (ReferenceIdeal.Value.after_ops (launchContents m c)) _).trans (ReferenceIdeal.Value.val2_main_v58 (launchContents m c))).symm,
      (h c).2.2⟩

/-- From the same heat map, sizes and offsets, both results of the two programs are equal. -/
theorem results_eq (m : (ℓ : Loc KernelIdeal.nD KernelIdeal.τ KernelIdeal.sig) → Buf (Elt Ideal) ℓ)
    (c : Dev KernelIdeal.nD) (Y : Valuation ReferenceIdeal.τ ReferenceIdeal.sig (Elt Ideal))
    (h0 : Y (Proc.devRef .tc ReferenceIdeal.main_arg0) = m ((c.tc : Thread KernelIdeal.nD KernelIdeal.τ).loc KernelIdeal.main_arg0))
    (h1 : Y (Proc.devRef .tc ReferenceIdeal.main_arg1) = m ((c.tc : Thread KernelIdeal.nD KernelIdeal.τ).loc KernelIdeal.main_arg1))
    (h2 : Y (Proc.devRef .tc ReferenceIdeal.main_arg2) = m ((c.tc : Thread KernelIdeal.nD KernelIdeal.τ).loc KernelIdeal.main_arg2)) :
    after ReferenceIdeal.Value.ops Y (Proc.devRef .tc ReferenceIdeal.main_v57)
        = after tailOps (afterKernel m c) (Proc.devRef .tc KernelIdeal.main_v47)
      ∧ after ReferenceIdeal.Value.ops Y (Proc.devRef .tc ReferenceIdeal.main_v58)
        = after tailOps (afterKernel m c) (Proc.devRef .tc KernelIdeal.main_v48) := by
  have e : shapeCast KernelIdeal.S1x1310720 (shapeCast KernelIdeal.S1x80x128x128
      (afterKernel m c (Proc.devRef .tc KernelIdeal.main_v1)) KernelIdeal.Gen.shapeCasts_S80x128x128_S1x80x128x128)
      KernelIdeal.Gen.shapeCasts_S1x80x128x128_S1x1310720 = ReferenceIdeal.Value.res_main_v13 Y := by
    rw [afterKernel_result]
    refine Eq.trans ?_ (flat_heat Y)
    rw [h0]
  exact ⟨(tail_boxes (afterKernel m c) Y e ((afterKernel_sizes m c).trans h1.symm) ((afterKernel_offsets m c).trans h2.symm)).symm,
    (tail_classes (afterKernel m c) Y e).symm⟩

end Cert.Decode
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Runs
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, by
  refine ⟨fun m ρ _ => Cert.Kernel.Gen.frame m ρ, fun m ρ _ => Cert.KernelIdeal.Gen.frame m ρ, ?_, trivial, ?_⟩
  · intro m g _
    exact θ_run_mono (Cert.Decode.reference_run m g) fun r h => ⟨fun c => (h c).2.2, sem_eq_zero_of_no_sems (by decide) _⟩
  · intro m g m' g' _ hagree
    refine ⟨_, _, Cert.Decode.kernel_run m g, θ_run_mono (Cert.Decode.reference_run m' g') fun r h c => ?_⟩
    obtain ⟨a0, a1, a2⟩ := hagree c
    obtain ⟨e0, e1⟩ := Cert.Decode.results_eq m c (StableHlo.launchContents m' c) a0 a1 a2
    exact ⟨(h c).1.trans e0, (h c).2.1.trans e1, (h c).2.2⟩⟩

end Cert.Proof

end
